-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_drawn [hPre_inputs_drawn : Cert.Pre_inputs_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_drawn [hPre_inputs_drawn : Cert.Pre_inputs_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_inputs_drawn [hKernelIdeal : Cert.KernelIdeal.Facts] [hPre_inputs_drawn : Cert.Pre_inputs_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_inputs_drawn [hReferenceIdeal : Cert.ReferenceIdeal.Facts] [hPre_inputs_drawn : Cert.Pre_inputs_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale_log" .f32 0x46DD5FB7#32 ((40880 * (Real.log 2) : ℝ) : EReal)

def algebraic_KernelIdeal_ReferenceIdeal_pre_inputs_drawn [hKernelIdeal : Cert.KernelIdeal.Facts] [hReferenceIdeal : Cert.ReferenceIdeal.Facts] [hPre_inputs_drawn : Cert.Pre_inputs_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_inputs_drawn : Cert.Pre_inputs_drawn.Facts),
    quiescent_Kernel (hKernel := hKernel)
    ∧ quiescent_KernelIdeal (hKernelIdeal := hKernelIdeal)
    ∧ quiescent_KernelIdeal_pre_inputs_drawn (hKernelIdeal := hKernelIdeal) (hPre_inputs_drawn := hPre_inputs_drawn)
    ∧ quiescent_ReferenceIdeal (hReferenceIdeal := hReferenceIdeal)
    ∧ quiescent_ReferenceIdeal_pre_inputs_drawn (hReferenceIdeal := hReferenceIdeal) (hPre_inputs_drawn := hPre_inputs_drawn)
    ∧ preserves_Kernel_KernelIdeal
    ∧ algebraic_KernelIdeal_ReferenceIdeal_pre_inputs_drawn (hKernelIdeal := hKernelIdeal) (hReferenceIdeal := hReferenceIdeal) (hPre_inputs_drawn := hPre_inputs_drawn)
-- ==== Pre_inputs_drawn.lean ====
abbrev S512x16x64 : Shape := ⟨3, ![512, 16, 64]⟩
abbrev S512x16 : Shape := ⟨2, ![512, 16]⟩
abbrev S64 : Shape := ⟨1, ![64]⟩
abbrev S64x64 : Shape := ⟨2, ![64, 64]⟩
abbrev S_ : Shape := ⟨0, ![]⟩

class Facts : Prop where
  bcast_S_S512x16x64 : S_.BroadcastsInDim S512x16x64 (![] : Fin 0 → Fin S512x16x64.rank)
  reducesTo_S512x16x64_S_d0_1_2 : S512x16x64.ReducesTo [0, 1, 2] S_
  h_S_ : 0 < S_.numel
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S512x16 : S_.BroadcastsInDim S512x16 (![] : Fin 0 → Fin S512x16.rank)
  reducesTo_S512x16_S_d0_1 : S512x16.ReducesTo [0, 1] S_

variable [Facts]

def fn_part2 {F : FTy → Type} [FloatOps F] (main_arg2 : IVec S512x16 32) (main_arg3 : IVec S512x16 1) (main_v30 : IVec S_ 1) (main_v32 : IVec S512x16 1) (main_c_12 : IVec S_ 32) : IVec S_ 1 :=
  let main_v33 : IVec S512x16 32 := broadcastInDim S512x16 ![] bcast_S_S512x16 main_c_12
  let main_v34 : IVec S512x16 1 := cmpi .slt main_arg2 main_v33
  let main_v35 : IVec S512x16 1 := andi main_v32 main_v34
  let main_c_13 : IVec S_ 1 := constantI S_ 1 1#1
  let main_v36 : IVec S_ 1 := (fun x v => Host.reduce IntOp.andi x v reducesTo_S512x16_S_d0_1 h_S_) main_v35 main_c_13
  let main_v37 : IVec S_ 1 := andi main_v30 main_v36
  let main_c_14 : IVec S_ 1 := constantI S_ 1 1#1
  let main_v38 : IVec S_ 1 := (fun x v => Host.reduce IntOp.andi x v reducesTo_S512x16_S_d0_1 h_S_) main_arg3 main_c_14
  let main_v39 : IVec S_ 1 := andi main_v37 main_v38
  main_v39

def fn_part1 {F : FTy → Type} [FloatOps F] (main_arg1 : IVec S512x16 32) (main_arg2 : IVec S512x16 32) (main_arg3 : IVec S512x16 1) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_c_8 : IVec S_ 32 := constantI S_ 32 0#32
  let main_v24 : IVec S512x16 32 := broadcastInDim S512x16 ![] bcast_S_S512x16 main_c_8
  let main_v25 : IVec S512x16 1 := cmpi .sge main_arg1 main_v24
  let main_c_9 : IVec S_ 32 := constantI S_ 32 64#32
  let main_v26 : IVec S512x16 32 := broadcastInDim S512x16 ![] bcast_S_S512x16 main_c_9
  let main_v27 : IVec S512x16 1 := cmpi .slt main_arg1 main_v26
  let main_v28 : IVec S512x16 1 := andi main_v25 main_v27
  let main_c_10 : IVec S_ 1 := constantI S_ 1 1#1
  let main_v29 : IVec S_ 1 := (fun x v => Host.reduce IntOp.andi x v reducesTo_S512x16_S_d0_1 h_S_) main_v28 main_c_10
  let main_v30 : IVec S_ 1 := andi main_v23 main_v29
  let main_c_11 : IVec S_ 32 := constantI S_ 32 0#32
  let main_v31 : IVec S512x16 32 := broadcastInDim S512x16 ![] bcast_S_S512x16 main_c_11
  let main_v32 : IVec S512x16 1 := cmpi .sge main_arg2 main_v31
  let main_c_12 : IVec S_ 32 := constantI S_ 32 2#32
  fn_part2 (F := F) main_arg2 main_arg3 main_v30 main_v32 main_c_12

def fn {F : FTy → Type} [FloatOps F] (main_arg0 : FVec F S512x16x64 .f32) (main_arg1 : IVec S512x16 32) (main_arg2 : IVec S512x16 32) (main_arg3 : IVec S512x16 1) (main_arg4 : FVec F S64 .f32) (main_arg5 : FVec F S64 .f32) (main_arg6 : FVec F S64x64 .f32) (main_arg7 : FVec F S64x64 .f32) : IVec S_ 1 :=
  let main_v0 : FVec F S512x16x64 .f32 := Host.absf main_arg0
  let main_cst : FVec F S_ .f32 := constant S_ .f32 0x7F800000#32
  let main_v1 : FVec F S512x16x64 .f32 := broadcastInDim S512x16x64 ![] bcast_S_S512x16x64 main_cst
  let main_v2 : IVec S512x16x64 1 := cmpf .olt main_v0 main_v1
  let main_c : IVec S_ 1 := constantI S_ 1 1#1
  let main_v3 : IVec S_ 1 := (fun x v => Host.reduce IntOp.andi x v reducesTo_S512x16x64_S_d0_1_2 h_S_) main_v2 main_c
  let main_v4 : FVec F S64 .f32 := Host.absf main_arg4
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg2 main_arg3 main_arg7 main_v13 main_v16
-- ==== Kernel.lean ====
abbrev S512x16x64 : Shape := ⟨3, ![512, 16, 64]⟩
abbrev S512x16 : Shape := ⟨2, ![512, 16]⟩
abbrev S64 : Shape := ⟨1, ![64]⟩
abbrev S64x64 : Shape := ⟨2, ![64, 64]⟩
abbrev S1x64 : Shape := ⟨2, ![1, 64]⟩
abbrev S1x1 : Shape := ⟨2, ![1, 1]⟩
abbrev S512x16x192 : Shape := ⟨3, ![512, 16, 192]⟩
abbrev S1x16 : Shape := ⟨2, ![1, 16]⟩
abbrev S511x16 : Shape := ⟨2, ![511, 16]⟩
abbrev S2x16 : Shape := ⟨2, ![2, 16]⟩
abbrev S510x16 : Shape := ⟨2, ![510, 16]⟩
abbrev S4x16 : Shape := ⟨2, ![4, 16]⟩
abbrev S508x16 : Shape := ⟨2, ![508, 16]⟩
abbrev S8x16 : Shape := ⟨2, ![8, 16]⟩
abbrev S504x16 : Shape := ⟨2, ![504, 16]⟩
abbrev S16x16 : Shape := ⟨2, ![16, 16]⟩
abbrev S496x16 : Shape := ⟨2, ![496, 16]⟩
abbrev S32x16 : Shape := ⟨2, ![32, 16]⟩
abbrev S480x16 : Shape := ⟨2, ![480, 16]⟩
abbrev S64x16 : Shape := ⟨2, ![64, 16]⟩
abbrev S448x16 : Shape := ⟨2, ![448, 16]⟩
abbrev S128x16 : Shape := ⟨2, ![128, 16]⟩
abbrev S384x16 : Shape := ⟨2, ![384, 16]⟩
abbrev S256x16 : Shape := ⟨2, ![256, 16]⟩
abbrev S512x16x1 : Shape := ⟨3, ![512, 16, 1]⟩
abbrev S1x16x64 : Shape := ⟨3, ![1, 16, 64]⟩
abbrev S511x16x64 : Shape := ⟨3, ![511, 16, 64]⟩
abbrev S8192x64 : Shape := ⟨2, ![8192, 64]⟩
abbrev S1x512x16x64 : Shape := ⟨4, ![1, 512, 16, 64]⟩
abbrev S1 : Shape := ⟨1, ![1]⟩
abbrev S1x1x1x1 : Shape := ⟨4, ![1, 1, 1, 1]⟩
abbrev S16x64 : Shape := ⟨2, ![16, 64]⟩
abbrev S1x1x1 : Shape := ⟨3, ![1, 1, 1]⟩
abbrev S264x16x64 : Shape := ⟨3, ![264, 16, 64]⟩
abbrev S264x16x192 : Shape := ⟨3, ![264, 16, 192]⟩
abbrev S256x16x64 : Shape := ⟨3, ![256, 16, 64]⟩
abbrev S256x16x192 : Shape := ⟨3, ![256, 16, 192]⟩
abbrev S64x192 : Shape := ⟨2, ![64, 192]⟩
abbrev S192x192 : Shape := ⟨2, ![192, 192]⟩
abbrev S1x192 : Shape := ⟨2, ![1, 192]⟩
abbrev S16x192 : Shape := ⟨2, ![16, 192]⟩
abbrev S16x1 : Shape := ⟨2, ![16, 1]⟩
abbrev S1x16x192 : Shape := ⟨3, ![1, 16, 192]⟩
abbrev S16 : Shape := ⟨1, ![16]⟩
abbrev S1x16x1 : Shape := ⟨3, ![1, 16, 1]⟩
abbrev S_ : Shape := ⟨0, ![]⟩

abbrev nBuf : Space → Nat
  | .hbm => 14
  | .vmem => 12
  | .smem => 0
  | _ => 0

abbrev bufTy : (tb : Table) → Fin (tcTables nBuf tb) → BufTy
  | .hbm, ⟨0, _⟩ => ⟨S512x16x64, .f32⟩
  | .hbm, ⟨1, _⟩ => ⟨S512x16, .i32⟩
  | .hbm, ⟨2, _⟩ => ⟨S512x16, .i32⟩
  | .hbm, ⟨3, _⟩ => ⟨S512x16, .i1⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S1x64, .f32⟩
  | .hbm, ⟨9, _⟩ => ⟨S1x64, .f32⟩
  | .hbm, ⟨10, _⟩ => ⟨S64x64, .f32⟩
  | .hbm, ⟨11, _⟩ => ⟨S64x64, .f32⟩
  | .hbm, ⟨12, _⟩ => ⟨S1x1, .f32⟩
  | .hbm, ⟨13, _⟩ => ⟨S_, .f32⟩
  | .local _ .vmem, ⟨0, _⟩ => ⟨S512x16x64, .f32⟩
  | .local _ .vmem, ⟨1, _⟩ => ⟨S512x16, .i32⟩
  | .local _ .vmem, ⟨2, _⟩ => ⟨S512x16, .i32⟩
  | .local _ .vmem, ⟨3, _⟩ => ⟨S1x64, .f32⟩
  | .local _ .vmem, ⟨4, _⟩ => ⟨S1x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S64x64, .f32⟩
  | .local _ .vmem, ⟨9, _⟩ => ⟨S1x1, .f32⟩
  | .local _ .vmem, ⟨10, _⟩ => ⟨S512x16x192, .bf16⟩
  | .local _ .vmem, ⟨11, _⟩ => ⟨S512x16x192, .bf16⟩
  | _, _ => ⟨S512x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32_111 : BitVec 32 := 0#32
  let c15_i32 : BitVec 32 := 15#32
  let v371 : BitVec 32 := Scalar.addi c0_i32_111 c15_i32
  let c1_i32_112 : BitVec 32 := 1#32
  ⟨c0_i32_111, v371, c1_i32_112⟩
def k0_off1 (k0_t1 : Fin k0_t1_loop.trips) (c0_i32_219 : BitVec 32) : Fin 3 → Nat :=
  let c16_i32 : BitVec 32 := 16#32
  let c0_i32_111 : BitVec 32 := 0#32
  let c1_i32_112 : BitVec 32 := 1#32
  let arg12 : BitVec 32 := Scf.iv c0_i32_111 c1_i32_112 k0_t1
  let v567 : BitVec 32 := Scalar.muli c16_i32 arg12
  let c1_i32_217 : BitVec 32 := 1#32
  let v568 : BitVec 32 := Scalar.addi v567 c1_i32_217
  let v571 : BitVec 32 := Scalar.addi v568 c0_i32_219
  let v572 : Index := Scalar.indexCast v571
  let c0_220 : Index := 0#32
  let c0_221 : Index := 0#32
  ![v572.toNat, 0, 0]
def k0_off2 (k0_t1 : Fin k0_t1_loop.trips) (c0_i32_223 : BitVec 32) : Fin 3 → Nat :=
  let c511_i32 : BitVec 32 := 511#32
  let c16_i32_218 : BitVec 32 := 16#32
  let c0_i32_111 : BitVec 32 := 0#32
  let c1_i32_112 : BitVec 32 := 1#32
  let arg12 : BitVec 32 := Scf.iv c0_i32_111 c1_i32_112 k0_t1
  let v569 : BitVec 32 := Scalar.muli c16_i32_218 arg12
  let v570 : BitVec 32 := Scalar.subi c511_i32 v569
  let v578 : BitVec 32 := Scalar.subi v570 c0_i32_223
  let v579 : Index := Scalar.indexCast v578
  let c0_224 : Index := 0#32
  let c0_225 : Index := 0#32
  ![v579.toNat, 0, 0]
abbrev stage0_0 : Fin 1 → Memref sig .tc .vmem S512x16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x16 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== KernelIdeal.lean ====
variable {F : FTy → Type} [FloatOps F] [Named F]
def κ : String → Option EReal := fun
  | "scale_log" => some ((40880 * (Real.log 2) : ℝ) : EReal)
  | _ => none
-- ==== ReferenceIdeal.lean ====
abbrev S512x16x64 : Shape := ⟨3, ![512, 16, 64]⟩
abbrev S512x16 : Shape := ⟨2, ![512, 16]⟩
abbrev S64 : Shape := ⟨1, ![64]⟩
abbrev S64x64 : Shape := ⟨2, ![64, 64]⟩
abbrev S512 : Shape := ⟨1, ![512]⟩
abbrev S1x512x16 : Shape := ⟨3, ![1, 512, 16]⟩
abbrev S512x1x16 : Shape := ⟨3, ![512, 1, 16]⟩
abbrev S512x512x16 : Shape := ⟨3, ![512, 512, 16]⟩
abbrev S1x512x1 : Shape := ⟨3, ![1, 512, 1]⟩
abbrev S512x1x1 : Shape := ⟨3, ![512, 1, 1]⟩
abbrev S512x512x1 : Shape := ⟨3, ![512, 512, 1]⟩
abbrev S_ : Shape := ⟨0, ![]⟩
abbrev S512x1 : Shape := ⟨2, ![512, 1]⟩
abbrev S16 : Shape := ⟨1, ![16]⟩
abbrev S1x16 : Shape := ⟨2, ![1, 16]⟩
abbrev S16x1 : Shape := ⟨2, ![16, 1]⟩
abbrev S16x3 : Shape := ⟨2, ![16, 3]⟩
abbrev S512x16x1 : Shape := ⟨3, ![512, 16, 1]⟩
abbrev S512x16x2 : Shape := ⟨3, ![512, 16, 2]⟩
abbrev S511x16 : Shape := ⟨2, ![511, 16]⟩
abbrev S512x16x3 : Shape := ⟨3, ![512, 16, 3]⟩
abbrev S16x2 : Shape := ⟨2, ![16, 2]⟩
abbrev S1x64 : Shape := ⟨2, ![1, 64]⟩
abbrev S1x16x64 : Shape := ⟨3, ![1, 16, 64]⟩
abbrev S16x64 : Shape := ⟨2, ![16, 64]⟩
abbrev S1x64x64 : Shape := ⟨3, ![1, 64, 64]⟩
abbrev S16x1x1 : Shape := ⟨3, ![16, 1, 1]⟩
abbrev S16x64x64 : Shape := ⟨3, ![16, 64, 64]⟩
abbrev S16x64x1 : Shape := ⟨3, ![16, 64, 1]⟩
abbrev S16x1x64 : Shape := ⟨3, ![16, 1, 64]⟩

abbrev nBuf : Space → Nat
  | .hbm => 362
  | .vmem => 0
  | .smem => 0
  | _ => 0

abbrev hbmTy0_0 (i : Nat) : BufTy := match i % 128 with
  | 0 => ⟨S512x16x64, .f32⟩
  | 1 => ⟨S512x16, .i32⟩
  | 2 => ⟨S512x16, .i32⟩
  | 3 => ⟨S512x16, .i1⟩
  | 4 => ⟨S64, .f32⟩
  | 5 => ⟨S64, .f32⟩
  | 6 => ⟨S64x64, .f32⟩
  | 7 => ⟨S64x64, .f32⟩
  | 8 => ⟨S512, .i32⟩
  | 9 => ⟨S1x512x16, .i32⟩
  | 10 => ⟨S512x1x16, .i32⟩
  | 11 => ⟨S512x512x16, .i32⟩
  | 12 => ⟨S512x512x16, .i32⟩
  | 13 => ⟨S512x512x16, .i1⟩
  | 14 => ⟨S1x512x1, .i32⟩
  | 15 => ⟨S512x1x1, .i32⟩
  | 16 => ⟨S512x512x1, .i32⟩
  | 17 => ⟨S512x512x1, .i32⟩
  | 18 => ⟨S512x512x1, .i1⟩
  | 19 => ⟨S512x512x16, .i1⟩
  | 20 => ⟨S512x512x16, .i1⟩
  | 21 => ⟨S1x512x1, .i32⟩
  | 22 => ⟨S_, .i32⟩
  | 23 => ⟨S1x512x1, .i32⟩
  | 24 => ⟨S1x512x1, .i32⟩
  | 25 => ⟨S_, .i32⟩
  | 26 => ⟨S_, .i32⟩
  | 27 => ⟨S512x512x16, .i32⟩
  | 28 => ⟨S512x512x16, .i32⟩
  | 29 => ⟨S512x512x16, .i32⟩
  | 30 => ⟨S_, .i32⟩
  | 31 => ⟨S512x16, .i32⟩
  | 32 => ⟨S512x1, .i32⟩
  | 33 => ⟨S_, .i32⟩
  | 34 => ⟨S512x16, .i32⟩
  | 35 => ⟨S512x16, .i1⟩
  | 36 => ⟨S512x16, .i32⟩
  | 37 => ⟨S512x16, .i1⟩
  | 38 => ⟨S512x16, .f32⟩
  | 39 => ⟨S16, .i32⟩
  | 40 => ⟨S1x16, .i32⟩
  | 41 => ⟨S16, .i32⟩
  | 42 => ⟨S_, .i32⟩
  | 43 => ⟨S16, .i32⟩
  | 44 => ⟨S16, .i1⟩
  | 45 => ⟨S_, .i32⟩
  | 46 => ⟨S16, .i32⟩
  | 47 => ⟨S16, .i32⟩
  | 48 => ⟨S16, .i32⟩
  | 49 => ⟨S16x1, .i32⟩
  | 50 => ⟨S16, .f32⟩
  | 51 => ⟨S1x16, .i32⟩
  | 52 => ⟨S16, .i32⟩
  | 53 => ⟨S_, .i32⟩
  | 54 => ⟨S16, .i32⟩
  | 55 => ⟨S16, .i1⟩
  | 56 => ⟨S_, .i32⟩
  | 57 => ⟨S16, .i32⟩
  | 58 => ⟨S16, .i32⟩
  | 59 => ⟨S16, .i32⟩
  | 60 => ⟨S_, .i32⟩
  | 61 => ⟨S16, .i32⟩
  | 62 => ⟨S16, .i1⟩
  | 63 => ⟨S_, .i32⟩
  | 64 => ⟨S16, .i32⟩
  | 65 => ⟨S16, .i32⟩
  | 66 => ⟨S16, .i32⟩
  | 67 => ⟨S_, .i32⟩
  | 68 => ⟨S16, .i32⟩
  | 69 => ⟨S16, .i32⟩
  | 70 => ⟨S16x1, .i32⟩
  | 71 => ⟨S16x1, .i32⟩
  | 72 => ⟨S16x1, .i32⟩
  | 73 => ⟨S16x3, .i32⟩
  | 74 => ⟨S16, .f32⟩
  | 75 => ⟨S16, .f32⟩
  | 76 => ⟨S_, .i32⟩
  | 77 => ⟨S512x16, .i32⟩
  | 78 => ⟨S512x16, .i32⟩
  | 79 => ⟨S_, .i32⟩
  | 80 => ⟨S_, .i32⟩
  | 81 => ⟨S_, .i32⟩
  | 82 => ⟨S512x16, .i32⟩
  | 83 => ⟨S512x16, .i32⟩
  | 84 => ⟨S_, .i32⟩
  | 85 => ⟨S512x16, .i32⟩
  | 86 => ⟨S512x16, .i32⟩
  | 87 => ⟨S1x16, .i32⟩
  | 88 => ⟨S_, .i32⟩
  | 89 => ⟨S512x16, .i32⟩
  | 90 => ⟨S512x16, .i1⟩
  | 91 => ⟨S_, .i32⟩
  | 92 => ⟨S512x16, .i32⟩
  | 93 => ⟨S512x16, .i32⟩
  | 94 => ⟨S512x16, .i32⟩
  | 95 => ⟨S_, .i32⟩
  | 96 => ⟨S1x16, .i32⟩
  | 97 => ⟨S1x16, .i1⟩
  | 98 => ⟨S_, .i32⟩
  | 99 => ⟨S1x16, .i32⟩
  | 100 => ⟨S1x16, .i32⟩
  | 101 => ⟨S1x16, .i32⟩
  | 102 => ⟨S512x16, .i32⟩
  | 103 => ⟨S512x16x1, .i32⟩
  | 104 => ⟨S512x16x1, .i32⟩
  | 105 => ⟨S512x16x2, .i32⟩
  | 106 => ⟨S512x16, .i32⟩
  | 107 => ⟨S_, .i32⟩
  | 108 => ⟨S512x16, .i32⟩
  | 109 => ⟨S512x16, .i1⟩
  | 110 => ⟨S_, .i32⟩
  | 111 => ⟨S512x16, .i32⟩
  | 112 => ⟨S512x16, .i32⟩
  | 113 => ⟨S512x16, .i32⟩
  | 114 => ⟨S_, .i32⟩
  | 115 => ⟨S512x16, .i32⟩
  | 116 => ⟨S512x16, .i1⟩
  | 117 => ⟨S_, .i32⟩
  | 118 => ⟨S512x16, .i32⟩
  | 119 => ⟨S512x16, .i32⟩
  | 120 => ⟨S512x16, .i32⟩
  | 121 => ⟨S512x16x1, .i32⟩
  | 122 => ⟨S512x16x1, .i32⟩
  | 123 => ⟨S512x16x2, .i32⟩
  | 124 => ⟨S512x16, .f32⟩
  | 125 => ⟨S1x16, .i32⟩
  | 126 => ⟨S511x16, .i32⟩
  | 127 => ⟨S512x16, .i32⟩
  | _ => ⟨S512x16x64, .f32⟩

abbrev hbmTy0_1 (i : Nat) : BufTy := match i % 128 with
  | 0 => ⟨S_, .i32⟩
  | 1 => ⟨S512x16, .i32⟩
  | 2 => ⟨S512x16, .i1⟩
  | 3 => ⟨S_, .i32⟩
  | 4 => ⟨S512x16, .i32⟩
  | 5 => ⟨S512x16, .i32⟩
  | 6 => ⟨S512x16, .i32⟩
  | 7 => ⟨S_, .i32⟩
  | 8 => ⟨S512x16, .i32⟩
  | 9 => ⟨S512x16, .i1⟩
  | 10 => ⟨S_, .i32⟩
  | 11 => ⟨S512x16, .i32⟩
  | 12 => ⟨S512x16, .i32⟩
  | 13 => ⟨S512x16, .i32⟩
  | 14 => ⟨S512x16x1, .i32⟩
  | 15 => ⟨S512x16x1, .i32⟩
  | 16 => ⟨S512x16x2, .i32⟩
  | 17 => ⟨S512x16, .f32⟩
  | 18 => ⟨S1x16, .i32⟩
  | 19 => ⟨S_, .i32⟩
  | 20 => ⟨S512x1, .i32⟩
  | 21 => ⟨S512x1, .i1⟩
  | 22 => ⟨S_, .i32⟩
  | 23 => ⟨S512x1, .i32⟩
  | 24 => ⟨S512x1, .i32⟩
  | 25 => ⟨S512x1, .i32⟩
  | 26 => ⟨S_, .i32⟩
  | 27 => ⟨S1x16, .i32⟩
  | 28 => ⟨S1x16, .i1⟩
  | 29 => ⟨S_, .i32⟩
  | 30 => ⟨S1x16, .i32⟩
  | 31 => ⟨S1x16, .i32⟩
  | 32 => ⟨S1x16, .i32⟩
  | 33 => ⟨S_, .i32⟩
  | 34 => ⟨S512x16, .i32⟩
  | 35 => ⟨S512x16, .i1⟩
  | 36 => ⟨S_, .i32⟩
  | 37 => ⟨S512x16, .i32⟩
  | 38 => ⟨S512x16, .i32⟩
  | 39 => ⟨S512x16, .i32⟩
  | 40 => ⟨S512x16, .i32⟩
  | 41 => ⟨S512x16, .i32⟩
  | 42 => ⟨S512x16x1, .i32⟩
  | 43 => ⟨S512x16x1, .i32⟩
  | 44 => ⟨S512x16x1, .i32⟩
  | 45 => ⟨S512x16x3, .i32⟩
  | 46 => ⟨S512x16, .f32⟩
  | 47 => ⟨S512x16, .f32⟩
  | 48 => ⟨S512x16, .f32⟩
  | 49 => ⟨S512x16, .f32⟩
  | 50 => ⟨S512x16, .f32⟩
  | 51 => ⟨S512x16, .f32⟩
  | 52 => ⟨S512x16, .f32⟩
  | 53 => ⟨S512x16, .f32⟩
  | 54 => ⟨S511x16, .f32⟩
  | 55 => ⟨S_, .f32⟩
  | 56 => ⟨S16, .f32⟩
  | 57 => ⟨S16, .f32⟩
  | 58 => ⟨S512x16, .i32⟩
  | 59 => ⟨S_, .i32⟩
  | 60 => ⟨S16, .i32⟩
  | 61 => ⟨S_, .i32⟩
  | 62 => ⟨S16, .i32⟩
  | 63 => ⟨S16, .i32⟩
  | 64 => ⟨S_, .i32⟩
  | 65 => ⟨S16, .i32⟩
  | 66 => ⟨S16, .i1⟩
  | 67 => ⟨S_, .i32⟩
  | 68 => ⟨S16, .i32⟩
  | 69 => ⟨S16, .i32⟩
  | 70 => ⟨S16, .i32⟩
  | 71 => ⟨S_, .i32⟩
  | 72 => ⟨S16, .i32⟩
  | 73 => ⟨S16, .i1⟩
  | 74 => ⟨S_, .i32⟩
  | 75 => ⟨S16, .i32⟩
  | 76 => ⟨S16, .i32⟩
  | 77 => ⟨S16, .i32⟩
  | 78 => ⟨S16x1, .i32⟩
  | 79 => ⟨S16x1, .i32⟩
  | 80 => ⟨S16x2, .i32⟩
  | 81 => ⟨S16, .i32⟩
  | 82 => ⟨S_, .i32⟩
  | 83 => ⟨S16, .i32⟩
  | 84 => ⟨S16, .i1⟩
  | 85 => ⟨S_, .i32⟩
  | 86 => ⟨S16, .i32⟩
  | 87 => ⟨S16, .i32⟩
  | 88 => ⟨S16, .i32⟩
  | 89 => ⟨S16x1, .i32⟩
  | 90 => ⟨S16, .f32⟩
  | 91 => ⟨S16, .f32⟩
  | 92 => ⟨S1x64, .f32⟩
  | 93 => ⟨S1x16x64, .f32⟩
  | 94 => ⟨S16x64, .f32⟩
  | 95 => ⟨S16x64, .f32⟩
  | 96 => ⟨S16x64, .f32⟩
  | 97 => ⟨S_, .i32⟩
  | 98 => ⟨S_, .i32⟩
  | 99 => ⟨S64x64, .f32⟩
  | 100 => ⟨S512x16, .f32⟩
  | 101 => ⟨S64x64, .f32⟩
  | 102 => ⟨S512x16, .f32⟩
  | 103 => ⟨S512x16x64, .f32⟩
  | 104 => ⟨S512x16, .i1⟩
  | 105 => ⟨S_, .i32⟩
  | 106 => ⟨S_, .i32⟩
  | 107 => ⟨S16x64, .f32⟩
  | 108 => ⟨S_, .i32⟩
  | 109 => ⟨S_, .i1⟩
  | 110 => ⟨S_, .i32⟩
  | 111 => ⟨S_, .i32⟩
  | 112 => ⟨S1x64x64, .f32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S1x16, .f32⟩
  | _ => ⟨S512x16x64, .f32⟩

abbrev hbmTy0_2 (i : Nat) : BufTy := match i % 128 with
  | 0 => ⟨S16, .f32⟩
  | 1 => ⟨S16x1x1, .f32⟩
  | 2 => ⟨S16x64x64, .f32⟩
  | 3 => ⟨S16x64x64, .f32⟩
  | 4 => ⟨S16x64x64, .f32⟩
  | 5 => ⟨S1x64x64, .f32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S1x16, .f32⟩
  | 21 => ⟨S16, .f32⟩
  | 22 => ⟨S16x1x1, .f32⟩
  | 23 => ⟨S16x64x64, .f32⟩
  | 24 => ⟨S16x64x64, .f32⟩
  | 25 => ⟨S16x64x64, .f32⟩
  | 26 => ⟨S16x64x64, .f32⟩
  | 27 => ⟨S16x64x1, .f32⟩
  | 28 => ⟨S16x64x64, .f32⟩
  | 29 => ⟨S16x64x64, .f32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S1x16x64, .f32⟩
  | 53 => ⟨S16x64, .f32⟩
  | 54 => ⟨S16x1x64, .f32⟩
  | 55 => ⟨S16x64x64, .f32⟩
  | 56 => ⟨S16x64x64, .f32⟩
  | 57 => ⟨S_, .f32⟩
  | 58 => ⟨S16x64, .f32⟩
  | 59 => ⟨S16x1x64, .f32⟩
  | 60 => ⟨S16x64, .f32⟩
  | 61 => ⟨S16x64x64, .f32⟩
  | 62 => ⟨S16x64x64, .f32⟩
  | 63 => ⟨S16x64x64, .f32⟩
  | 64 => ⟨S_, .f32⟩
  | 65 => ⟨S16x64, .f32⟩
  | 66 => ⟨S16x64, .f32⟩
  | 67 => ⟨S16x64, .f32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S1x16, .i1⟩
  | 83 => ⟨S16, .i1⟩
  | 84 => ⟨S16x1, .i1⟩
  | 85 => ⟨S16x64, .i1⟩
  | 86 => ⟨S16x64, .f32⟩
  | 87 => ⟨S_, .i32⟩
  | 88 => ⟨S_, .i32⟩
  | 89 => ⟨S1x64, .f32⟩
  | 90 => ⟨S16x64, .f32⟩
  | 91 => ⟨S16x64, .f32⟩
  | 92 => ⟨S_, .f32⟩
  | 93 => ⟨S16, .f32⟩
  | 94 => ⟨S16x1, .f32⟩
  | 95 => ⟨S16, .f32⟩
  | 96 => ⟨S16x64, .f32⟩
  | 97 => ⟨S16x64, .f32⟩
  | 98 => ⟨S16x64, .f32⟩
  | 99 => ⟨S_, .f32⟩
  | 100 => ⟨S16, .f32⟩
  | 101 => ⟨S16, .f32⟩
  | 102 => ⟨S16, .f32⟩
  | 103 => ⟨S16, .f32⟩
  | 104 => ⟨S_, .f32⟩
  | 105 => ⟨S_, .f32⟩
  | _ => ⟨S512x16x64, .f32⟩

abbrev hbmTy (i : Nat) : BufTy := match i / 128 with
  | 0 => hbmTy0_0 i
  | 1 => hbmTy0_1 i
  | 2 => hbmTy0_2 i
  | _ => ⟨S512x16x64, .f32⟩

abbrev bufTy : (tb : Table) → Fin (tcTables nBuf tb) → BufTy
  | .hbm, ⟨i, _⟩ => hbmTy i
  | _, _ => ⟨S512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v16 : Ref sig .tc := ⟨.hbm, 29, rfl⟩
abbrev main_c_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_c_12 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_v56 : Ref sig .tc := ⟨.hbm, 86, rfl⟩
abbrev main_v57 : Ref sig .tc := ⟨.hbm, 87, rfl⟩
abbrev main_c_13 : Ref sig .tc := ⟨.hbm, 88, rfl⟩
abbrev main_v58 : Ref sig .tc := ⟨.hbm, 89, rfl⟩
abbrev main_v59 : Ref sig .tc := ⟨.hbm, 90, rfl⟩
abbrev main_c_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_c_15 : Ref sig .tc := ⟨.hbm, 95, rfl⟩
abbrev main_v63 : Ref sig .tc := ⟨.hbm, 96, rfl⟩
abbrev main_v64 : Ref sig .tc := ⟨.hbm, 97, rfl⟩
abbrev main_c_16 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_17 : Ref sig .tc := ⟨.hbm, 107, rfl⟩
abbrev main_v73 : Ref sig .tc := ⟨.hbm, 108, rfl⟩
abbrev main_v74 : Ref sig .tc := ⟨.hbm, 109, rfl⟩
abbrev main_c_18 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_19 : Ref sig .tc := ⟨.hbm, 114, rfl⟩
abbrev main_v78 : Ref sig .tc := ⟨.hbm, 115, rfl⟩
abbrev main_v79 : Ref sig .tc := ⟨.hbm, 116, rfl⟩
abbrev main_c_20 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_21 : Ref sig .tc := ⟨.hbm, 128, rfl⟩
abbrev main_v90 : Ref sig .tc := ⟨.hbm, 129, rfl⟩
abbrev main_v91 : Ref sig .tc := ⟨.hbm, 130, rfl⟩
abbrev main_c_22 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_c_23 : Ref sig .tc := ⟨.hbm, 135, rfl⟩
abbrev main_v95 : Ref sig .tc := ⟨.hbm, 136, rfl⟩
abbrev main_v96 : Ref sig .tc := ⟨.hbm, 137, rfl⟩
abbrev main_c_24 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_c_25 : Ref sig .tc := ⟨.hbm, 147, rfl⟩
abbrev main_v105 : Ref sig .tc := ⟨.hbm, 148, rfl⟩
abbrev main_v106 : Ref sig .tc := ⟨.hbm, 149, rfl⟩
abbrev main_c_26 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_c_27 : Ref sig .tc := ⟨.hbm, 154, rfl⟩
abbrev main_v110 : Ref sig .tc := ⟨.hbm, 155, rfl⟩
abbrev main_v111 : Ref sig .tc := ⟨.hbm, 156, rfl⟩
abbrev main_c_28 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_c_29 : Ref sig .tc := ⟨.hbm, 161, rfl⟩
abbrev main_v115 : Ref sig .tc := ⟨.hbm, 162, rfl⟩
abbrev main_v116 : Ref sig .tc := ⟨.hbm, 163, rfl⟩
abbrev main_c_30 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_c_31 : Ref sig .tc := ⟨.hbm, 187, rfl⟩
abbrev main_v138 : Ref sig .tc := ⟨.hbm, 188, rfl⟩
abbrev main_c_32 : Ref sig .tc := ⟨.hbm, 189, rfl⟩
abbrev main_v139 : Ref sig .tc := ⟨.hbm, 190, rfl⟩
abbrev main_v140 : Ref sig .tc := ⟨.hbm, 191, rfl⟩
abbrev main_c_33 : Ref sig .tc := ⟨.hbm, 192, rfl⟩
abbrev main_v141 : Ref sig .tc := ⟨.hbm, 193, rfl⟩
abbrev main_v142 : Ref sig .tc := ⟨.hbm, 194, rfl⟩
abbrev main_c_34 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_c_35 : Ref sig .tc := ⟨.hbm, 199, rfl⟩
abbrev main_v146 : Ref sig .tc := ⟨.hbm, 200, rfl⟩
abbrev main_v147 : Ref sig .tc := ⟨.hbm, 201, rfl⟩
abbrev main_c_36 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_c_37 : Ref sig .tc := ⟨.hbm, 210, rfl⟩
abbrev main_v155 : Ref sig .tc := ⟨.hbm, 211, rfl⟩
abbrev main_v156 : Ref sig .tc := ⟨.hbm, 212, rfl⟩
abbrev main_c_38 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_c_39 : Ref sig .tc := ⟨.hbm, 225, rfl⟩
abbrev main_c_40 : Ref sig .tc := ⟨.hbm, 226, rfl⟩
abbrev main_v168_0 : Ref sig .tc := ⟨.hbm, 227, rfl⟩
abbrev main_v168_1 : Ref sig .tc := ⟨.hbm, 228, rfl⟩
abbrev main_v168_2 : Ref sig .tc := ⟨.hbm, 229, rfl⟩
abbrev main_v168_3 : Ref sig .tc := ⟨.hbm, 230, rfl⟩
abbrev main_v168_4 : Ref sig .tc := ⟨.hbm, 231, rfl⟩
abbrev main_v168_5 : Ref sig .tc := ⟨.hbm, 232, rfl⟩
abbrev main_v168_6 : Ref sig .tc := ⟨.hbm, 233, rfl⟩
abbrev main_v168_7 : Ref sig .tc := ⟨.hbm, 234, rfl⟩
abbrev main_v168_8 : Ref sig .tc := ⟨.hbm, 235, rfl⟩
abbrev main_while0c_c_52 : Ref sig .tc := ⟨.hbm, 236, rfl⟩
abbrev main_while0c_v183 : Ref sig .tc := ⟨.hbm, 237, rfl⟩
abbrev main_while0b_c_52 : Ref sig .tc := ⟨.hbm, 238, rfl⟩
abbrev main_while0b_v183 : Ref sig .tc := ⟨.hbm, 239, rfl⟩
abbrev main_while0b_v184 : Ref sig .tc := ⟨.hbm, 240, rfl⟩
abbrev main_while0b_v185 : Ref sig .tc := ⟨.hbm, 241, rfl⟩
abbrev main_while0b_c_53 : Ref sig .tc := ⟨.hbm, 242, rfl⟩
abbrev main_while0b_v186 : Ref sig .tc := ⟨.hbm, 243, rfl⟩
abbrev main_while0b_c_54 : Ref sig .tc := ⟨.hbm, 244, rfl⟩
abbrev main_while0b_v187 : Ref sig .tc := ⟨.hbm, 245, rfl⟩
abbrev main_while0b_v188 : Ref sig .tc := ⟨.hbm, 246, rfl⟩
abbrev main_while0b_c_55 : Ref sig .tc := ⟨.hbm, 247, rfl⟩
abbrev main_while0b_c_56 : Ref sig .tc := ⟨.hbm, 248, rfl⟩
abbrev main_while0b_v189 : Ref sig .tc := ⟨.hbm, 249, rfl⟩
abbrev main_while0b_c_57 : Ref sig .tc := ⟨.hbm, 250, rfl⟩
abbrev main_while0b_c_58 : Ref sig .tc := ⟨.hbm, 251, rfl⟩
abbrev main_while0b_v190 : Ref sig .tc := ⟨.hbm, 252, rfl⟩
abbrev main_while0b_c_59 : Ref sig .tc := ⟨.hbm, 253, rfl⟩
abbrev main_while0b_v191 : Ref sig .tc := ⟨.hbm, 254, rfl⟩
abbrev main_while0b_v192 : Ref sig .tc := ⟨.hbm, 255, rfl⟩
abbrev main_while0b_v193 : Ref sig .tc := ⟨.hbm, 256, rfl⟩
abbrev main_while0b_v194 : Ref sig .tc := ⟨.hbm, 257, rfl⟩
abbrev main_while0b_v195 : Ref sig .tc := ⟨.hbm, 258, rfl⟩
abbrev main_while0b_v196 : Ref sig .tc := ⟨.hbm, 259, rfl⟩
abbrev main_while0b_v197 : Ref sig .tc := ⟨.hbm, 260, rfl⟩
abbrev main_while0b_v198 : Ref sig .tc := ⟨.hbm, 261, rfl⟩
abbrev main_while0b_v199 : Ref sig .tc := ⟨.hbm, 262, rfl⟩
abbrev main_while0b_c_60 : Ref sig .tc := ⟨.hbm, 263, rfl⟩
abbrev main_while0b_v200 : Ref sig .tc := ⟨.hbm, 264, rfl⟩
abbrev main_while0b_c_61 : Ref sig .tc := ⟨.hbm, 265, rfl⟩
abbrev main_while0b_v201 : Ref sig .tc := ⟨.hbm, 266, rfl⟩
abbrev main_while0b_v202 : Ref sig .tc := ⟨.hbm, 267, rfl⟩
abbrev main_while0b_c_62 : Ref sig .tc := ⟨.hbm, 268, rfl⟩
abbrev main_while0b_c_63 : Ref sig .tc := ⟨.hbm, 269, rfl⟩
abbrev main_while0b_v203 : Ref sig .tc := ⟨.hbm, 270, rfl⟩
abbrev main_while0b_c_64 : Ref sig .tc := ⟨.hbm, 271, rfl⟩
abbrev main_while0b_c_65 : Ref sig .tc := ⟨.hbm, 272, rfl⟩
abbrev main_while0b_v204 : Ref sig .tc := ⟨.hbm, 273, rfl⟩
abbrev main_while0b_c_66 : Ref sig .tc := ⟨.hbm, 274, rfl⟩
abbrev main_while0b_v205 : Ref sig .tc := ⟨.hbm, 275, rfl⟩
abbrev main_while0b_v206 : Ref sig .tc := ⟨.hbm, 276, rfl⟩
abbrev main_while0b_v207 : Ref sig .tc := ⟨.hbm, 277, rfl⟩
abbrev main_while0b_v208 : Ref sig .tc := ⟨.hbm, 278, rfl⟩
abbrev main_while0b_v209 : Ref sig .tc := ⟨.hbm, 279, rfl⟩
abbrev main_while0b_v210 : Ref sig .tc := ⟨.hbm, 280, rfl⟩
abbrev main_while0b_v211 : Ref sig .tc := ⟨.hbm, 281, rfl⟩
abbrev main_while0b_v212 : Ref sig .tc := ⟨.hbm, 282, rfl⟩
abbrev main_while0b_v213 : Ref sig .tc := ⟨.hbm, 283, rfl⟩
abbrev main_while0b_v214 : Ref sig .tc := ⟨.hbm, 284, rfl⟩
abbrev main_while0b_v215 : Ref sig .tc := ⟨.hbm, 285, rfl⟩
abbrev main_while0b_v216 : Ref sig .tc := ⟨.hbm, 286, rfl⟩
abbrev main_while0b_c_67 : Ref sig .tc := ⟨.hbm, 287, rfl⟩
abbrev main_while0b_v217 : Ref sig .tc := ⟨.hbm, 288, rfl⟩
abbrev main_while0b_c_68 : Ref sig .tc := ⟨.hbm, 289, rfl⟩
abbrev main_while0b_v218 : Ref sig .tc := ⟨.hbm, 290, rfl⟩
abbrev main_while0b_v219 : Ref sig .tc := ⟨.hbm, 291, rfl⟩
abbrev main_while0b_c_69 : Ref sig .tc := ⟨.hbm, 292, rfl⟩
abbrev main_while0b_c_70 : Ref sig .tc := ⟨.hbm, 293, rfl⟩
abbrev main_while0b_v220 : Ref sig .tc := ⟨.hbm, 294, rfl⟩
abbrev main_while0b_c_71 : Ref sig .tc := ⟨.hbm, 295, rfl⟩
abbrev main_while0b_c_72 : Ref sig .tc := ⟨.hbm, 296, rfl⟩
abbrev main_while0b_v221 : Ref sig .tc := ⟨.hbm, 297, rfl⟩
abbrev main_while0b_c_73 : Ref sig .tc := ⟨.hbm, 298, rfl⟩
abbrev main_while0b_v222 : Ref sig .tc := ⟨.hbm, 299, rfl⟩
abbrev main_while0b_c_74 : Ref sig .tc := ⟨.hbm, 300, rfl⟩
abbrev main_while0b_c_75 : Ref sig .tc := ⟨.hbm, 301, rfl⟩
abbrev main_while0b_v223 : Ref sig .tc := ⟨.hbm, 302, rfl⟩
abbrev main_while0b_c_76 : Ref sig .tc := ⟨.hbm, 303, rfl⟩
abbrev main_while0b_c_77 : Ref sig .tc := ⟨.hbm, 304, rfl⟩
abbrev main_while0b_v224 : Ref sig .tc := ⟨.hbm, 305, rfl⟩
abbrev main_while0b_c_78 : Ref sig .tc := ⟨.hbm, 306, rfl⟩
abbrev main_while0b_v225 : Ref sig .tc := ⟨.hbm, 307, rfl⟩
abbrev main_while0b_v226 : Ref sig .tc := ⟨.hbm, 308, rfl⟩
abbrev main_while0b_v227 : Ref sig .tc := ⟨.hbm, 309, rfl⟩
abbrev main_while0b_v228 : Ref sig .tc := ⟨.hbm, 310, rfl⟩
abbrev main_while0b_v229 : Ref sig .tc := ⟨.hbm, 311, rfl⟩
abbrev main_while0b_v230 : Ref sig .tc := ⟨.hbm, 312, rfl⟩
abbrev main_while0b_cst_79 : Ref sig .tc := ⟨.hbm, 313, rfl⟩
abbrev main_while0b_v231 : Ref sig .tc := ⟨.hbm, 314, rfl⟩
abbrev main_while0b_v232 : Ref sig .tc := ⟨.hbm, 315, rfl⟩
abbrev main_while0b_v233 : Ref sig .tc := ⟨.hbm, 316, rfl⟩
abbrev main_while0b_v234 : Ref sig .tc := ⟨.hbm, 317, rfl⟩
abbrev main_while0b_v235 : Ref sig .tc := ⟨.hbm, 318, rfl⟩
abbrev main_while0b_v236 : Ref sig .tc := ⟨.hbm, 319, rfl⟩
abbrev main_while0b_cst_80 : Ref sig .tc := ⟨.hbm, 320, rfl⟩
abbrev main_while0b_v237 : Ref sig .tc := ⟨.hbm, 321, rfl⟩
abbrev main_while0b_v238 : Ref sig .tc := ⟨.hbm, 322, rfl⟩
abbrev main_while0b_v239 : Ref sig .tc := ⟨.hbm, 323, rfl⟩
abbrev main_while0b_v240 : Ref sig .tc := ⟨.hbm, 324, rfl⟩
abbrev main_while0b_c_81 : Ref sig .tc := ⟨.hbm, 325, rfl⟩
abbrev main_while0b_v241 : Ref sig .tc := ⟨.hbm, 326, rfl⟩
abbrev main_while0b_c_82 : Ref sig .tc := ⟨.hbm, 327, rfl⟩
abbrev main_while0b_v242 : Ref sig .tc := ⟨.hbm, 328, rfl⟩
abbrev main_while0b_v243 : Ref sig .tc := ⟨.hbm, 329, rfl⟩
abbrev main_while0b_c_83 : Ref sig .tc := ⟨.hbm, 330, rfl⟩
abbrev main_while0b_c_84 : Ref sig .tc := ⟨.hbm, 331, rfl⟩
abbrev main_while0b_v244 : Ref sig .tc := ⟨.hbm, 332, rfl⟩
abbrev main_while0b_c_85 : Ref sig .tc := ⟨.hbm, 333, rfl⟩
abbrev main_while0b_c_86 : Ref sig .tc := ⟨.hbm, 334, rfl⟩
abbrev main_while0b_v245 : Ref sig .tc := ⟨.hbm, 335, rfl⟩
abbrev main_while0b_c_87 : Ref sig .tc := ⟨.hbm, 336, rfl⟩
abbrev main_while0b_v246 : Ref sig .tc := ⟨.hbm, 337, rfl⟩
abbrev main_while0b_v247 : Ref sig .tc := ⟨.hbm, 338, rfl⟩
abbrev main_while0b_v248 : Ref sig .tc := ⟨.hbm, 339, rfl⟩
abbrev main_while0b_v249 : Ref sig .tc := ⟨.hbm, 340, rfl⟩
abbrev main_while0b_call2_v0 : Ref sig .tc := ⟨.hbm, 341, rfl⟩
abbrev main_while0b_v250 : Ref sig .tc := ⟨.hbm, 342, rfl⟩
abbrev main_while0b_c_88 : Ref sig .tc := ⟨.hbm, 343, rfl⟩
abbrev main_while0b_v251 : Ref sig .tc := ⟨.hbm, 344, rfl⟩
abbrev main_v169 : Ref sig .tc := ⟨.hbm, 345, rfl⟩
abbrev main_v170 : Ref sig .tc := ⟨.hbm, 346, rfl⟩
abbrev main_v171 : Ref sig .tc := ⟨.hbm, 347, rfl⟩
abbrev main_cst_41 : Ref sig .tc := ⟨.hbm, 348, rfl⟩
abbrev main_v172 : Ref sig .tc := ⟨.hbm, 349, rfl⟩
abbrev main_v173 : Ref sig .tc := ⟨.hbm, 350, rfl⟩
abbrev main_v174 : Ref sig .tc := ⟨.hbm, 351, rfl⟩
abbrev main_v175 : Ref sig .tc := ⟨.hbm, 352, rfl⟩
abbrev main_v176 : Ref sig .tc := ⟨.hbm, 353, rfl⟩
abbrev main_v177 : Ref sig .tc := ⟨.hbm, 354, rfl⟩
abbrev main_cst_42 : Ref sig .tc := ⟨.hbm, 355, rfl⟩
abbrev main_v178 : Ref sig .tc := ⟨.hbm, 356, rfl⟩
abbrev main_v179 : Ref sig .tc := ⟨.hbm, 357, rfl⟩
abbrev main_v180 : Ref sig .tc := ⟨.hbm, 358, rfl⟩
abbrev main_v181 : Ref sig .tc := ⟨.hbm, 359, rfl⟩
abbrev main_cst_43 : Ref sig .tc := ⟨.hbm, 360, rfl⟩
abbrev main_v182 : Ref sig .tc := ⟨.hbm, 361, rfl⟩

abbrev nD : Nat := 1
abbrev τ : Topo := Topo.v7x

variable {F : FTy → Type} [FloatOps F]

abbrev main_while0_count : Scf.Loop 32 := ⟨0#32, 511#32, 1#32⟩
-- ==== Proof.KI.Body.lean ====
module

public import proofs.«01_k».proof.Proof.Gen.KernelIdeal.Loops
public import proofs.«01_k».proof.Proof.Gen.KernelIdeal.Frame
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The proof's resource algebra: the launch's. -/
local notation "𝕄" => MT nD τ sig Unit (Elt F) ℕ (UR sig nD τ) ℕ

abbrev 𝒱₀ : Variants := Variants.none

/-- The loop's rule with its seventh value the first carried one at entry. -/
@[sl_loop] noncomputable def loopRule (𝒱 : Variants) (c : Dev nD) (bd : Option 𝒱.V) (E : Set ℕ) (arg0 : Memref sig .tc .vmem S512x16x64 .f32) (harg0 : arg0.IsWhole) (arg1 : Memref sig .tc .vmem S512x16 .i32) (harg1 : arg1.IsWhole) (arg2 : Memref sig .tc .vmem S512x16 .i32) (harg2 : arg2.IsWhole) (arg3 : Memref sig .tc .vmem S1x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S64x64 .f32) (harg8 : arg8.IsWhole) (arg9 : Memref sig .tc .vmem S1x1 .f32) (harg9 : arg9.IsWhole) (arg10 : Memref sig .tc .vmem S512x16x192 .bf16) (harg10 : arg10.IsWhole) (arg11 : Memref sig .tc .vmem S512x16x192 .bf16) (harg11 : arg11.IsWhole) (v338 : FVec F S192x192 .bf16) (v357 : FVec F S192x192 .bf16) (X_arg10 : BufTy.Contents (Elt F) arg10.view.ty) (X_arg11 : BufTy.Contents (Elt F) arg11.view.ty) (init : FVec F S16x192 .f32 × FVec F S16x192 .f32 × FVec F S16x1 .f32 × FVec F S16x1 .f32) :=
  loopInv_k0_t1 (F := F) 𝒱 c bd E arg0 harg0 arg1 harg1 arg2 harg2 arg3 harg3 arg4 harg4 arg5 harg5 arg6 harg6 arg7 harg7 arg8 harg8 arg9 harg9 arg10 harg10 arg11 harg11 v338 v357 init.1 X_arg10 X_arg11 init

/-- What the body leaves in the result's buffer, from blocks `x0 … x8` of the arguments and contents `f10`, `f11` of
    the two scratch buffers: a value found by running the body, with the proof that the body reaches its end holding
    the arguments' blocks as they were, the result's buffer at that value and the scratch buffers at something. -/
noncomputable def kernelRun (c : Dev nD) (M0 : Memref sig .tc .vmem S512x16x64 .f32) (h0 : M0.IsWhole) (M1 : Memref sig .tc .vmem S512x16 .i32) (h1 : M1.IsWhole) (M2 : Memref sig .tc .vmem S512x16 .i32) (h2 : M2.IsWhole) (M3 : Memref sig .tc .vmem S1x64 .f32) (h3 : M3.IsWhole) (M4 : Memref sig .tc .vmem S1x64 .f32) (h4 : M4.IsWhole) (M5 : Memref sig .tc .vmem S64x64 .f32) (h5 : M5.IsWhole) (M6 : Memref sig .tc .vmem S64x64 .f32) (h6 : M6.IsWhole) (M7 : Memref sig .tc .vmem S64x64 .f32) (h7 : M7.IsWhole) (M8 : Memref sig .tc .vmem S64x64 .f32) (h8 : M8.IsWhole) (M9 : Memref sig .tc .vmem S1x1 .f32) (h9 : M9.IsWhole) (M10 : Memref sig .tc .vmem S512x16x192 .bf16) (h10 : M10.IsWhole) (M11 : Memref sig .tc .vmem S512x16x192 .bf16) (h11 : M11.IsWhole)
    (x0 : Vec F S512x16x64 .f32) (x1 : Vec F S512x16 .i32) (x2 : Vec F S512x16 .i32) (x3 : Vec F S1x64 .f32) (x4 : Vec F S1x64 .f32) (x5 : Vec F S64x64 .f32) (x6 : Vec F S64x64 .f32) (x7 : Vec F S64x64 .f32) (x8 : Vec F S64x64 .f32)
    (f10 : BufTy.Contents (Elt F) M10.view.ty) (f11 : BufTy.Contents (Elt F) M11.view.ty) :
    { Y : Vec F S1x1 .f32 //
      ∀ (E : Set ℕ) (K : PUnit → sProp 𝕄),
        iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ (∃ d, owns (c : Thread nD τ) M9 fullShare d) ∗ (M10.view.loc (c : Thread nD τ) ↦[M10.view.set]{fullShare} f10) ∗ (M11.view.loc (c : Thread nD τ) ↦[M11.view.set]{fullShare} f11)
          ∗ (iprop(owns (c : Thread nD τ) M0 fullShare x0 ∗ owns (c : Thread nD τ) M1 fullShare x1 ∗ owns (c : Thread nD τ) M2 fullShare x2 ∗ owns (c : Thread nD τ) M3 fullShare x3 ∗ owns (c : Thread nD τ) M4 fullShare x4 ∗ owns (c : Thread nD τ) M5 fullShare x5 ∗ owns (c : Thread nD τ) M6 fullShare x6 ∗ owns (c : Thread nD τ) M7 fullShare x7 ∗ owns (c : Thread nD τ) M8 fullShare x8 ∗ owns (c : Thread nD τ) M9 fullShare Y ∗ (∃ f, (M10.view.loc (c : Thread nD τ) ↦[M10.view.set]{fullShare} f)) ∗ (∃ f, (M11.view.loc (c : Thread nD τ) ↦[M11.view.set]{fullShare} f))) -∗ K ⟨⟩))
          ⊢ wp frame (wpE (defs₀ (F := F)) 𝒱₀ c none) E (cc0__crf_body M0 h0 M1 h1 M2 h2 M3 h3 M4 h4 M5 h5 M6 h6 M7 h7 M8 h8 M9 h9 M10 h10 M11 h11) K } := by
  refine ⟨?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, H10, H11, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7; obtain rfl := h8.eq_unread hf8
    sl_unfold [cc0__crf_body]
    sl_exec!
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    isplitl [H8]
    · iexists _; isplitr; · ipureintro; exact h8.read_unread _
      iexact H8
    isplitl [H9]
    · iexists _; isplitr; swap; · iexact H9
      ipureintro; rfl
    isplitl [H10]
    · iexists _; iexact H10
    iexists _; iexact H11

end Cert.Proof.KI

end
-- ==== Proof.KI.Value.lean ====
module

public import proofs.«01_k».proof.Proof.Gen.KernelIdeal.Loops
public import proofs.«01_k».proof.Proof.Gen.KernelIdeal.Frame
public import Idealize.ShloMosaic.Lib.Tactic
public import Idealize.ShloMosaic.Lib.VecWindow
public import Idealize.ShloMosaic.Lib.WritesUnit
public import Idealize.ShloMosaic.Lib.Writes
public import Idealize.ShloMosaic.Lib.ValueIdxCore
public import Idealize.ShloMosaic.Lib.ValueLayout

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.ValueIdx (ix0 ix1 ix2 ix3)
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-! The kernel's result as one function of its nine arguments, written over the payload functions of the program, with
no scratch buffer in it. -/

/-- An integer array moved down by `n` positions along the first axis, zeros entering at the top. -/
def shiftDown (n k : ℕ) (hs : S512x16.Slices ![0, 0] ⟨2, ![k, 16]⟩) (hc : Shape.Concatenates [⟨2, ![n, 16]⟩, ⟨2, ![k, 16]⟩] S512x16 0)
    (x : IVec S512x16 32) : IVec S512x16 32 :=
  concatenate S512x16 0 [⟨⟨2, ![n, 16]⟩, broadcast _ (0#32 : BitVec 32)⟩, ⟨⟨2, ![k, 16]⟩, extractStridedSlice ⟨2, ![k, 16]⟩ ![0, 0] x hs⟩] hc

/-- One doubling step of the last-valid-value scan on the flags: valid at a position or `n` positions before. -/
def flagStep (n k : ℕ) (hs : S512x16.Slices ![0, 0] ⟨2, ![k, 16]⟩) (hc : Shape.Concatenates [⟨2, ![n, 16]⟩, ⟨2, ![k, 16]⟩] S512x16 0)
    (f : IVec S512x16 32) : IVec S512x16 32 := maxsi f (shiftDown n k hs hc f)

/-- One doubling step of the last-valid-value scan on the values: kept where valid, else the value `n` positions before. -/
def valStep (n k : ℕ) (hs : S512x16.Slices ![0, 0] ⟨2, ![k, 16]⟩) (hc : Shape.Concatenates [⟨2, ![n, 16]⟩, ⟨2, ![k, 16]⟩] S512x16 0)
    (x f : IVec S512x16 32) : IVec S512x16 32 := select (cmpi .eq f (broadcast S512x16 1#32)) x (shiftDown n k hs hc x)

/-- The flags before the first step of the scan. -/
abbrev flag_0 (f : IVec S512x16 32) : IVec S512x16 32 := f
/-- The values before the first step of the scan. -/
abbrev val_0 (x f : IVec S512x16 32) : IVec S512x16 32 := x

/-- The flags after the step of shift 1. -/
def flag_1 (f : IVec S512x16 32) : IVec S512x16 32 := flagStep 1 511 slices_S512x16_o0_0_S511x16 concatenates_S1x16_S511x16_S512x16_d0 (flag_0 f)
/-- The values after the step of shift 1. -/
def val_1 (x f : IVec S512x16 32) : IVec S512x16 32 := valStep 1 511 slices_S512x16_o0_0_S511x16 concatenates_S1x16_S511x16_S512x16_d0 (val_0 x f) (flag_0 f)

/-- The flags after the step of shift 2. -/
def flag_2 (f : IVec S512x16 32) : IVec S512x16 32 := flagStep 2 510 slices_S512x16_o0_0_S510x16 concatenates_S2x16_S510x16_S512x16_d0 (flag_1 f)
/-- The values after the step of shift 2. -/
def val_2 (x f : IVec S512x16 32) : IVec S512x16 32 := valStep 2 510 slices_S512x16_o0_0_S510x16 concatenates_S2x16_S510x16_S512x16_d0 (val_1 x f) (flag_1 f)

/-- The flags after the step of shift 4. -/
def flag_3 (f : IVec S512x16 32) : IVec S512x16 32 := flagStep 4 508 slices_S512x16_o0_0_S508x16 concatenates_S4x16_S508x16_S512x16_d0 (flag_2 f)
/-- The values after the step of shift 4. -/
def val_3 (x f : IVec S512x16 32) : IVec S512x16 32 := valStep 4 508 slices_S512x16_o0_0_S508x16 concatenates_S4x16_S508x16_S512x16_d0 (val_2 x f) (flag_2 f)

/-- The flags after the step of shift 8. -/
def flag_4 (f : IVec S512x16 32) : IVec S512x16 32 := flagStep 8 504 slices_S512x16_o0_0_S504x16 concatenates_S8x16_S504x16_S512x16_d0 (flag_3 f)
/-- The values after the step of shift 8. -/
def val_4 (x f : IVec S512x16 32) : IVec S512x16 32 := valStep 8 504 slices_S512x16_o0_0_S504x16 concatenates_S8x16_S504x16_S512x16_d0 (val_3 x f) (flag_3 f)

/-- The flags after the step of shift 16. -/
def flag_5 (f : IVec S512x16 32) : IVec S512x16 32 := flagStep 16 496 slices_S512x16_o0_0_S496x16 concatenates_S16x16_S496x16_S512x16_d0 (flag_4 f)
/-- The values after the step of shift 16. -/
def val_5 (x f : IVec S512x16 32) : IVec S512x16 32 := valStep 16 496 slices_S512x16_o0_0_S496x16 concatenates_S16x16_S496x16_S512x16_d0 (val_4 x f) (flag_4 f)

/-- The flags after the step of shift 32. -/
def flag_6 (f : IVec S512x16 32) : IVec S512x16 32 := flagStep 32 480 slices_S512x16_o0_0_S480x16 concatenates_S32x16_S480x16_S512x16_d0 (flag_5 f)
/-- The values after the step of shift 32. -/
def val_6 (x f : IVec S512x16 32) : IVec S512x16 32 := valStep 32 480 slices_S512x16_o0_0_S480x16 concatenates_S32x16_S480x16_S512x16_d0 (val_5 x f) (flag_5 f)

/-- The flags after the step of shift 64. -/
def flag_7 (f : IVec S512x16 32) : IVec S512x16 32 := flagStep 64 448 slices_S512x16_o0_0_S448x16 concatenates_S64x16_S448x16_S512x16_d0 (flag_6 f)
/-- The values after the step of shift 64. -/
def val_7 (x f : IVec S512x16 32) : IVec S512x16 32 := valStep 64 448 slices_S512x16_o0_0_S448x16 concatenates_S64x16_S448x16_S512x16_d0 (val_6 x f) (flag_6 f)

/-- The flags after the step of shift 128. -/
def flag_8 (f : IVec S512x16 32) : IVec S512x16 32 := flagStep 128 384 slices_S512x16_o0_0_S384x16 concatenates_S128x16_S384x16_S512x16_d0 (flag_7 f)
/-- The values after the step of shift 128. -/
def val_8 (x f : IVec S512x16 32) : IVec S512x16 32 := valStep 128 384 slices_S512x16_o0_0_S384x16 concatenates_S128x16_S384x16_S512x16_d0 (val_7 x f) (flag_7 f)

/-- The flags after the step of shift 256. -/
def flag_9 (f : IVec S512x16 32) : IVec S512x16 32 := flagStep 256 256 slices_S512x16_o0_0_S256x16 concatenates_S256x16_S256x16_S512x16_d0 (flag_8 f)
/-- The values after the step of shift 256. -/
def val_9 (x f : IVec S512x16 32) : IVec S512x16 32 := valStep 256 256 slices_S512x16_o0_0_S256x16 concatenates_S256x16_S256x16_S512x16_d0 (val_8 x f) (flag_8 f)

/-- One where the speaker is `0`, else zero. -/
def flag0 (q : IVec S512x16 32) : IVec S512x16 32 :=
  select (cmpi .eq q (broadcast S512x16 0#32)) (broadcast S512x16 1#32) (broadcast S512x16 0#32)

/-- One where the speaker is not `0`, else zero. -/
def flag1 (q : IVec S512x16 32) : IVec S512x16 32 := subi (broadcast S512x16 1#32) (flag0 q)

/-- The tag last seen of the same speaker, per class column. -/
def prevSame (tg q : IVec S512x16 32) : IVec S512x16x64 32 :=
  k0_pay50 (F := F) q (val_9 tg (flag0 q)) (val_8 tg (flag1 q)) (flag_8 (flag1 q)) (broadcast S256x16 0#32)

/-- Whether the same speaker spoke before, as zero or one, per class column. -/
def inertF (q : IVec S512x16 32) : FVec F S512x16x64 .f32 :=
  k0_pay51 q (flag_9 (flag0 q)) (flag_8 (flag1 q))

/-- Whether the speaker changed, as zero or one, per class column. -/
def contF (q : IVec S512x16 32) : FVec F S512x16x64 .f32 := k0_pay55 (k0_pay52 (F := F) q) k0_pay53 k0_pay54

/-- Row `t` of a table whose first row is row `o`. -/
def rowAt {n : ℕ} (o : ℕ) (p : (⟨3, ![n, 16, 192]⟩ : Shape).Idx → F .bf16) (t : ℕ) : Vec F S1x16x192 .bf16 := fun i =>
  if h : t - o < n then p (ix3 ⟨t - o, h⟩ (i 1) (i 2)) else Scalar.ofBits .bf16 0#16

/-- One step of the recursion: the row times the state, through the transition matrix. -/
def stepM (E : FVec F S192x192 .bf16) (s : FVec F S16x192 .f32) (w : Vec F S1x16x192 .bf16) : FVec F S16x192 .f32 :=
  matmul dot_S16x192_S192x192_S16x192_1_0_0_1_n_n none
    (mulf (truncf .bf16 s bitsLt_bf16_f32) (shapeCast S16x192 w shapeCasts_S1x16x192_S16x192)) E (constant S16x192 .f32 0x00000000#32)

/-- `n` steps in a row, over the rows `w 0`, `w 1`, …. -/
def stepsN (E : FVec F S192x192 .bf16) (w : ℕ → Vec F S1x16x192 .bf16) : ℕ → FVec F S16x192 .f32 → FVec F S16x192 .f32
  | 0, s => s
  | n + 1, s => stepM E (stepsN E w n s) (w n)

/-- The greatest entry of each row. -/
def rmax (s : FVec F S16x192 .f32) : FVec F S16x1 .f32 :=
  shapeCast S16x1 (multiReduction .maximumf [1] S16 s 0xFF800000#32 reduces_S16x192_S16 (.inl rfl) rfl) shapeCasts_S16_S16x1

/-- Each row divided by its greatest entry. -/
def rnorm (s : FVec F S16x192 .f32) : FVec F S16x192 .f32 := divf s (broadcastTo S16x192 (rmax s) broadcasts_S16x1_S16x192)

/-- What the loop carries: the two states and their two logarithmic scales. -/
abbrev Carry (F : FTy → Type) := FVec F S16x192 .f32 × FVec F S16x192 .f32 × FVec F S16x1 .f32 × FVec F S16x1 .f32

/-- One trip of the loop: sixteen steps each way, then both states rescaled. -/
def tripV (E Et : FVec F S192x192 .bf16) (wA wB : ℕ → Vec F S1x16x192 .bf16) (k : ℕ) (a : Carry F) : Carry F :=
  (rnorm (stepsN E (fun i => wA (16 * k + i + 1)) 16 a.1),
    rnorm (stepsN Et (fun i => wB (511 - (16 * k + i))) 16 a.2.1),
    addf a.2.2.1 (log (rmax (stepsN E (fun i => wA (16 * k + i + 1)) 16 a.1))),
    addf a.2.2.2 (log (rmax (stepsN Et (fun i => wB (511 - (16 * k + i))) 16 a.2.1))))

/-- `k` trips of the loop. -/
def loopV (E Et : FVec F S192x192 .bf16) (wA wB : ℕ → Vec F S1x16x192 .bf16) (a : Carry F) : ℕ → Carry F
  | 0 => a
  | k + 1 => tripV E Et wA wB k (loopV E Et wA wB a k)

/-- The table of the forward recursion (rows 0 to 263). -/
def tabA (q : IVec S512x16 32) (em : FVec F S512x16x64 .f32) : FVec F S264x16x192 .bf16 := k0_pay64 (inertF q) (contF q) em

/-- The table of the backward recursion (rows 256 to 511). -/
def tabB (q : IVec S512x16 32) (em : FVec F S512x16x64 .f32) : FVec F S256x16x192 .bf16 := k0_pay65 (inertF q) (contF q) em

/-- The score of the given tags. -/
def numer (em : FVec F S512x16x64 .f32) (tg q : IVec S512x16 32) (st en : FVec F S1x64 .f32) (sT oT : FVec F S64x64 .f32) : F .f32 :=
  k0_pay59 (k0_pay57 (k0_pay47 (F := F) tg) (prevSame (F := F) tg q) (inertF q) (k0_pay52 (F := F) q) k0_pay53 k0_pay54 em sT oT st)
    (k0_pay58 (k0_pay47 (F := F) tg)) en

/-- The two states after the loop and the steps that meet at position 256. -/
def lastF (E : FVec F S192x192 .bf16) (wA : ℕ → Vec F S1x16x192 .bf16) (s : FVec F S16x192 .f32) : FVec F S16x192 .f32 :=
  stepsN E (fun i => wA (241 + i)) 16 s
/-- The backward state's last fifteen steps. -/
def lastB (Et : FVec F S192x192 .bf16) (wB : ℕ → Vec F S1x16x192 .bf16) (s : FVec F S16x192 .f32) : FVec F S16x192 .f32 :=
  stepsN Et (fun i => wB (271 - i)) 15 s

/-- The carried values after the loop. -/
def carryV (em : FVec F S512x16x64 .f32) (q : IVec S512x16 32) (st en : FVec F S1x64 .f32) (sT oT sTt oTt : FVec F S64x64 .f32) : Carry F :=
  loopV (k0_pay66 sT oT sT oT) (k0_pay67 sTt oTt sTt oTt) (rowAt 0 (tabA q em)) (rowAt 256 (tabB q em))
    (k0_pay68 st, k0_pay69 en, k0_pay70, k0_pay70) 15

/-- The kernel's result as a function of its arguments. -/
def crfOut (em : FVec F S512x16x64 .f32) (tg q : IVec S512x16 32) (st en : FVec F S1x64 .f32) (sT oT sTt oTt : FVec F S64x64 .f32) :
    Vec F S1x1 .f32 :=
  let a := carryV em q st en sT oT sTt oTt
  let s := lastF (k0_pay66 sT oT sT oT) (rowAt 0 (tabA q em)) a.1
  k0_pay1 (numer em tg q st en sT oT) (k0_pay63 em) a.2.2.1 a.2.2.2
    (lastB (k0_pay67 sTt oTt sTt oTt) (rowAt 256 (tabB q em)) a.2.1) (rnorm s) (log (rmax s))

/-! ## Reading a row back from a scratch buffer -/

/-- A row read from a scratch buffer inside the box last written is the row of what was written there. -/
theorem readAt_row {n : ℕ} (v : View sig .tc .vmem S512x16x192 .bf16) (f : v.ty.Contents (Elt F)) (o t : ℕ) {off size : Fin 3 → ℕ}
    (hoff : off = ![t, 0, 0]) (hsize : size = S1x16x192.size) (inb : ∀ a, off a + size a ≤ S512x16x192.size a)
    (inb' : ∀ a, (![o, 0, 0] : Fin 3 → ℕ) a + (⟨3, ![n, 16, 192]⟩ : Shape).size a ≤ S512x16x192.size a)
    (p : (⟨3, ![n, 16, 192]⟩ : Shape).Idx → F .bf16) (h1 : o ≤ t) (h2 : t < o + n) :
    v.readAt (Elt F) (Rect.unit (s := S512x16x192) off size inb).toLoadRect
      (v.writes (Elt F) f [⟨Rect.unit (s := S512x16x192) ![o, 0, 0] (⟨3, ![n, 16, 192]⟩ : Shape).size inb', p⟩]) = (hsize ▸ rowAt o p t) := by
  subst hoff hsize
  have h3 : t - o < n := by omega
  funext x
  rw [View.readAt_apply]
  show _ = rowAt o p t x
  unfold rowAt
  rw [dif_pos h3]
  refine View.read_writes_cons_unit_of_mem v f inb' p [] _ (ix3 ⟨t - o, h3⟩ (x 1) (x 2)) rfl fun a => ?_
  match a with
  | ⟨0, _⟩ =>
    have hx : (x 0).val < 1 := (x 0).isLt
    show t + 1 * (x 0).val = o + (t - o)
    omega
  | ⟨1, _⟩ => show 0 + 1 * (x 1).val = 0 + (x 1).val; omega
  | ⟨2, _⟩ => show 0 + 1 * (x 2).val = 0 + (x 2).val; omega

end Cert.Proof.KI

end
-- ==== Proof.KI.BodyValue.lean ====
module

public import proofs.«01_k».proof.Proof.Gen.KernelIdeal.Loops
public import proofs.«01_k».proof.Proof.Gen.KernelIdeal.Frame
public import Idealize.ShloMosaic.Lib.Tactic
public import proofs.«01_k».proof.Proof.KI.Body
public import proofs.«01_k».proof.Proof.KI.Value

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-! ## The value the body leaves is the function `crfOut` of its arguments -/

section

variable (𝒱 : Variants) (c : Dev nD) (bd : Option 𝒱.V) (M0 : Memref sig .tc .vmem S512x16x64 .f32) (h0 : M0.IsWhole) (M1 : Memref sig .tc .vmem S512x16 .i32) (h1 : M1.IsWhole) (M2 : Memref sig .tc .vmem S512x16 .i32) (h2 : M2.IsWhole) (M3 : Memref sig .tc .vmem S1x64 .f32) (h3 : M3.IsWhole) (M4 : Memref sig .tc .vmem S1x64 .f32) (h4 : M4.IsWhole) (M5 : Memref sig .tc .vmem S64x64 .f32) (h5 : M5.IsWhole) (M6 : Memref sig .tc .vmem S64x64 .f32) (h6 : M6.IsWhole) (M7 : Memref sig .tc .vmem S64x64 .f32) (h7 : M7.IsWhole) (M8 : Memref sig .tc .vmem S64x64 .f32) (h8 : M8.IsWhole) (M9 : Memref sig .tc .vmem S1x1 .f32) (h9 : M9.IsWhole) (M10 : Memref sig .tc .vmem S512x16x192 .bf16) (h10 : M10.IsWhole) (M11 : Memref sig .tc .vmem S512x16x192 .bf16) (h11 : M11.IsWhole)

/-- One trip of the loop, when the rows it reads are those of two tables. -/
theorem trip_eq (E Et : FVec F S192x192 .bf16) (s0 : FVec F S16x192 .f32) (f10 : BufTy.Contents (Elt F) M10.view.ty) (f11 : BufTy.Contents (Elt F) M11.view.ty)
    (wA wB : ℕ → Vec F S1x16x192 .bf16) (k : Fin k0_t1_loop.trips) (acc : Carry F)
    (hA : ∀ i : Fin 16, M10.view.readAt (Elt F) (Rect.unit (s := S512x16x192) (k0_off1 k (BitVec.ofNat 32 i.val)) S1x16x192.size (k0_off1_inb k i)).toLoadRect f10
      = wA (16 * k.val + i.val + 1))
    (hB : ∀ i : Fin 16, M11.view.readAt (Elt F) (Rect.unit (s := S512x16x192) (k0_off2 k (BitVec.ofNat 32 i.val)) S1x16x192.size (k0_off2_inb k i)).toLoadRect f11
      = wB (511 - (16 * k.val + i.val))) :
    tripR_k0_t1 (F := F) 𝒱 c bd M0 h0 M1 h1 M2 h2 M3 h3 M4 h4 M5 h5 M6 h6 M7 h7 M8 h8 M9 h9 M10 h10 M11 h11 E Et s0 f10 f11 k acc = tripV E Et wA wB k.val acc := by
  have eA : stepsN E (fun i => wA (16 * k.val + i + 1)) 16 acc.1
      = stepM E (stepM E (stepM E (stepM E (stepM E (stepM E (stepM E (stepM E (stepM E (stepM E (stepM E (stepM E (stepM E (stepM E (stepM E (stepM E (acc.1) (wA (16 * k.val + (0 : Fin 16).val + 1))) (wA (16 * k.val + (1 : Fin 16).val + 1))) (wA (16 * k.val + (2 : Fin 16).val + 1))) (wA (16 * k.val + (3 : Fin 16).val + 1))) (wA (16 * k.val + (4 : Fin 16).val + 1))) (wA (16 * k.val + (5 : Fin 16).val + 1))) (wA (16 * k.val + (6 : Fin 16).val + 1))) (wA (16 * k.val + (7 : Fin 16).val + 1))) (wA (16 * k.val + (8 : Fin 16).val + 1))) (wA (16 * k.val + (9 : Fin 16).val + 1))) (wA (16 * k.val + (10 : Fin 16).val + 1))) (wA (16 * k.val + (11 : Fin 16).val + 1))) (wA (16 * k.val + (12 : Fin 16).val + 1))) (wA (16 * k.val + (13 : Fin 16).val + 1))) (wA (16 * k.val + (14 : Fin 16).val + 1))) (wA (16 * k.val + (15 : Fin 16).val + 1)) := rfl
  have eB : stepsN Et (fun i => wB (511 - (16 * k.val + i))) 16 acc.2.1
      = stepM Et (stepM Et (stepM Et (stepM Et (stepM Et (stepM Et (stepM Et (stepM Et (stepM Et (stepM Et (stepM Et (stepM Et (stepM Et (stepM Et (stepM Et (stepM Et (acc.2.1) (wB (511 - (16 * k.val + (0 : Fin 16).val)))) (wB (511 - (16 * k.val + (1 : Fin 16).val)))) (wB (511 - (16 * k.val + (2 : Fin 16).val)))) (wB (511 - (16 * k.val + (3 : Fin 16).val)))) (wB (511 - (16 * k.val + (4 : Fin 16).val)))) (wB (511 - (16 * k.val + (5 : Fin 16).val)))) (wB (511 - (16 * k.val + (6 : Fin 16).val)))) (wB (511 - (16 * k.val + (7 : Fin 16).val)))) (wB (511 - (16 * k.val + (8 : Fin 16).val)))) (wB (511 - (16 * k.val + (9 : Fin 16).val)))) (wB (511 - (16 * k.val + (10 : Fin 16).val)))) (wB (511 - (16 * k.val + (11 : Fin 16).val)))) (wB (511 - (16 * k.val + (12 : Fin 16).val)))) (wB (511 - (16 * k.val + (13 : Fin 16).val)))) (wB (511 - (16 * k.val + (14 : Fin 16).val)))) (wB (511 - (16 * k.val + (15 : Fin 16).val))) := rfl
  unfold tripV
  rw [eA, eB, ← hA 0, ← hA 1, ← hA 2, ← hA 3, ← hA 4, ← hA 5, ← hA 6, ← hA 7, ← hA 8, ← hA 9, ← hA 10, ← hA 11, ← hA 12, ← hA 13, ← hA 14, ← hA 15, ← hB 0, ← hB 1, ← hB 2, ← hB 3, ← hB 4, ← hB 5, ← hB 6, ← hB 7, ← hB 8, ← hB 9, ← hB 10, ← hB 11, ← hB 12, ← hB 13, ← hB 14, ← hB 15]
  unfold tripR_k0_t1 trip_k0_t1
  rfl

/-- The carried values before trip `k`, when the rows the loop reads are those of two tables. -/
theorem st_eq (E Et : FVec F S192x192 .bf16) (s0 : FVec F S16x192 .f32) (f10 : BufTy.Contents (Elt F) M10.view.ty) (f11 : BufTy.Contents (Elt F) M11.view.ty)
    (wA wB : ℕ → Vec F S1x16x192 .bf16) (a : Carry F)
    (hA : ∀ (k : Fin k0_t1_loop.trips) (i : Fin 16), M10.view.readAt (Elt F) (Rect.unit (s := S512x16x192) (k0_off1 k (BitVec.ofNat 32 i.val)) S1x16x192.size (k0_off1_inb k i)).toLoadRect f10
      = wA (16 * k.val + i.val + 1))
    (hB : ∀ (k : Fin k0_t1_loop.trips) (i : Fin 16), M11.view.readAt (Elt F) (Rect.unit (s := S512x16x192) (k0_off2 k (BitVec.ofNat 32 i.val)) S1x16x192.size (k0_off2_inb k i)).toLoadRect f11
      = wB (511 - (16 * k.val + i.val))) :
    ∀ k, k ≤ k0_t1_loop.trips → st_k0_t1 (F := F) 𝒱 c bd M0 h0 M1 h1 M2 h2 M3 h3 M4 h4 M5 h5 M6 h6 M7 h7 M8 h8 M9 h9 M10 h10 M11 h11 E Et s0 f10 f11 a k = loopV E Et wA wB a k
  | 0, _ => st_k0_t1_zero ..
  | k + 1, hk => by
    refine (st_k0_t1_succ (F := F) 𝒱 c bd M0 h0 M1 h1 M2 h2 M3 h3 M4 h4 M5 h5 M6 h6 M7 h7 M8 h8 M9 h9 M10 h10 M11 h11 E Et s0 f10 f11 a ⟨k, hk⟩).trans ?_
    rw [trip_eq 𝒱 c bd M0 h0 M1 h1 M2 h2 M3 h3 M4 h4 M5 h5 M6 h6 M7 h7 M8 h8 M9 h9 M10 h10 M11 h11 E Et s0 f10 f11 wA wB ⟨k, hk⟩ _ (hA _) (hB _)]
    show tripV E Et wA wB k _ = tripV E Et wA wB k _
    rw [st_eq E Et s0 f10 f11 wA wB a hA hB k (Nat.le_of_lt hk)]

end

/-- A load of a whole array reads the array. -/
theorem readAt_all {S : Shape} {e : EltTy} {sp : Space} (M : Memref sig .tc sp S e) (h : M.IsWhole) (x : S.Idx → Elt F e)
    {off : Fin S.rank → ℕ} (h0 : ∀ a, off a = 0) (inb : ∀ a, off a + S.size a ≤ S.size a) :
    M.view.readAt (Elt F) (Rect.unit (s := S) off S.size inb).toLoadRect (h.unread x) = x :=
  (View.readAt_full M.view (h.unread x) inb).trans (h.read_unread x)

/-- The last sixteen forward steps, over rows read back from the scratch buffer. -/
theorem lastF_eq (M10 : Memref sig .tc .vmem S512x16x192 .bf16) (E : FVec F S192x192 .bf16) (p : FVec F S264x16x192 .bf16) (a : Carry F) :
    lastF E (rowAt 0 p) a.1 = stepM E (stepM E (stepM E (stepM E (stepM E (stepM E (stepM E (stepM E (stepM E (stepM E (stepM E (stepM E (stepM E (stepM E (stepM E (stepM E (a.1) (M10.view.readCov (Val := Elt F) [⟨Rect.unit (s := S512x16x192) ![0, 0, 0] S264x16x192.size inb_S512x16x192_S264x16x192_0_0_0, p⟩] (Rect.unit (s := S512x16x192) ![241, 0, 0] S1x16x192.size inb_S512x16x192_S1x16x192_241_0_0).toLoadRect)) (M10.view.readCov (Val := Elt F) [⟨Rect.unit (s := S512x16x192) ![0, 0, 0] S264x16x192.size inb_S512x16x192_S264x16x192_0_0_0, p⟩] (Rect.unit (s := S512x16x192) ![242, 0, 0] S1x16x192.size inb_S512x16x192_S1x16x192_242_0_0).toLoadRect)) (M10.view.readCov (Val := Elt F) [⟨Rect.unit (s := S512x16x192) ![0, 0, 0] S264x16x192.size inb_S512x16x192_S264x16x192_0_0_0, p⟩] (Rect.unit (s := S512x16x192) ![243, 0, 0] S1x16x192.size inb_S512x16x192_S1x16x192_243_0_0).toLoadRect)) (M10.view.readCov (Val := Elt F) [⟨Rect.unit (s := S512x16x192) ![0, 0, 0] S264x16x192.size inb_S512x16x192_S264x16x192_0_0_0, p⟩] (Rect.unit (s := S512x16x192) ![244, 0, 0] S1x16x192.size inb_S512x16x192_S1x16x192_244_0_0).toLoadRect)) (M10.view.readCov (Val := Elt F) [⟨Rect.unit (s := S512x16x192) ![0, 0, 0] S264x16x192.size inb_S512x16x192_S264x16x192_0_0_0, p⟩] (Rect.unit (s := S512x16x192) ![245, 0, 0] S1x16x192.size inb_S512x16x192_S1x16x192_245_0_0).toLoadRect)) (M10.view.readCov (Val := Elt F) [⟨Rect.unit (s := S512x16x192) ![0, 0, 0] S264x16x192.size inb_S512x16x192_S264x16x192_0_0_0, p⟩] (Rect.unit (s := S512x16x192) ![246, 0, 0] S1x16x192.size inb_S512x16x192_S1x16x192_246_0_0).toLoadRect)) (M10.view.readCov (Val := Elt F) [⟨Rect.unit (s := S512x16x192) ![0, 0, 0] S264x16x192.size inb_S512x16x192_S264x16x192_0_0_0, p⟩] (Rect.unit (s := S512x16x192) ![247, 0, 0] S1x16x192.size inb_S512x16x192_S1x16x192_247_0_0).toLoadRect)) (M10.view.readCov (Val := Elt F) [⟨Rect.unit (s := S512x16x192) ![0, 0, 0] S264x16x192.size inb_S512x16x192_S264x16x192_0_0_0, p⟩] (Rect.unit (s := S512x16x192) ![248, 0, 0] S1x16x192.size inb_S512x16x192_S1x16x192_248_0_0).toLoadRect)) (M10.view.readCov (Val := Elt F) [⟨Rect.unit (s := S512x16x192) ![0, 0, 0] S264x16x192.size inb_S512x16x192_S264x16x192_0_0_0, p⟩] (Rect.unit (s := S512x16x192) ![249, 0, 0] S1x16x192.size inb_S512x16x192_S1x16x192_249_0_0).toLoadRect)) (M10.view.readCov (Val := Elt F) [⟨Rect.unit (s := S512x16x192) ![0, 0, 0] S264x16x192.size inb_S512x16x192_S264x16x192_0_0_0, p⟩] (Rect.unit (s := S512x16x192) ![250, 0, 0] S1x16x192.size inb_S512x16x192_S1x16x192_250_0_0).toLoadRect)) (M10.view.readCov (Val := Elt F) [⟨Rect.unit (s := S512x16x192) ![0, 0, 0] S264x16x192.size inb_S512x16x192_S264x16x192_0_0_0, p⟩] (Rect.unit (s := S512x16x192) ![251, 0, 0] S1x16x192.size inb_S512x16x192_S1x16x192_251_0_0).toLoadRect)) (M10.view.readCov (Val := Elt F) [⟨Rect.unit (s := S512x16x192) ![0, 0, 0] S264x16x192.size inb_S512x16x192_S264x16x192_0_0_0, p⟩] (Rect.unit (s := S512x16x192) ![252, 0, 0] S1x16x192.size inb_S512x16x192_S1x16x192_252_0_0).toLoadRect)) (M10.view.readCov (Val := Elt F) [⟨Rect.unit (s := S512x16x192) ![0, 0, 0] S264x16x192.size inb_S512x16x192_S264x16x192_0_0_0, p⟩] (Rect.unit (s := S512x16x192) ![253, 0, 0] S1x16x192.size inb_S512x16x192_S1x16x192_253_0_0).toLoadRect)) (M10.view.readCov (Val := Elt F) [⟨Rect.unit (s := S512x16x192) ![0, 0, 0] S264x16x192.size inb_S512x16x192_S264x16x192_0_0_0, p⟩] (Rect.unit (s := S512x16x192) ![254, 0, 0] S1x16x192.size inb_S512x16x192_S1x16x192_254_0_0).toLoadRect)) (M10.view.readCov (Val := Elt F) [⟨Rect.unit (s := S512x16x192) ![0, 0, 0] S264x16x192.size inb_S512x16x192_S264x16x192_0_0_0, p⟩] (Rect.unit (s := S512x16x192) ![255, 0, 0] S1x16x192.size inb_S512x16x192_S1x16x192_255_0_0).toLoadRect)) (M10.view.readCov (Val := Elt F) [⟨Rect.unit (s := S512x16x192) ![0, 0, 0] S264x16x192.size inb_S512x16x192_S264x16x192_0_0_0, p⟩] (Rect.unit (s := S512x16x192) ![256, 0, 0] S1x16x192.size inb_S512x16x192_S1x16x192_256_0_0).toLoadRect) := by
  unfold View.readCov
  rw [readAt_row M10.view _ 0 241 rfl rfl _ _ p (by decide) (by decide), readAt_row M10.view _ 0 242 rfl rfl _ _ p (by decide) (by decide), readAt_row M10.view _ 0 243 rfl rfl _ _ p (by decide) (by decide), readAt_row M10.view _ 0 244 rfl rfl _ _ p (by decide) (by decide), readAt_row M10.view _ 0 245 rfl rfl _ _ p (by decide) (by decide), readAt_row M10.view _ 0 246 rfl rfl _ _ p (by decide) (by decide), readAt_row M10.view _ 0 247 rfl rfl _ _ p (by decide) (by decide), readAt_row M10.view _ 0 248 rfl rfl _ _ p (by decide) (by decide), readAt_row M10.view _ 0 249 rfl rfl _ _ p (by decide) (by decide), readAt_row M10.view _ 0 250 rfl rfl _ _ p (by decide) (by decide), readAt_row M10.view _ 0 251 rfl rfl _ _ p (by decide) (by decide), readAt_row M10.view _ 0 252 rfl rfl _ _ p (by decide) (by decide), readAt_row M10.view _ 0 253 rfl rfl _ _ p (by decide) (by decide), readAt_row M10.view _ 0 254 rfl rfl _ _ p (by decide) (by decide), readAt_row M10.view _ 0 255 rfl rfl _ _ p (by decide) (by decide), readAt_row M10.view _ 0 256 rfl rfl _ _ p (by decide) (by decide)]
  rfl

/-- The last fifteen backward steps, over rows read back from the scratch buffer. -/
theorem lastB_eq (M11 : Memref sig .tc .vmem S512x16x192 .bf16) (Et : FVec F S192x192 .bf16) (p : FVec F S256x16x192 .bf16) (a : Carry F) :
    lastB Et (rowAt 256 p) a.2.1 = stepM Et (stepM Et (stepM Et (stepM Et (stepM Et (stepM Et (stepM Et (stepM Et (stepM Et (stepM Et (stepM Et (stepM Et (stepM Et (stepM Et (stepM Et (a.2.1) (M11.view.readCov (Val := Elt F) [⟨Rect.unit (s := S512x16x192) ![256, 0, 0] S256x16x192.size inb_S512x16x192_S256x16x192_256_0_0, p⟩] (Rect.unit (s := S512x16x192) ![271, 0, 0] S1x16x192.size inb_S512x16x192_S1x16x192_271_0_0).toLoadRect)) (M11.view.readCov (Val := Elt F) [⟨Rect.unit (s := S512x16x192) ![256, 0, 0] S256x16x192.size inb_S512x16x192_S256x16x192_256_0_0, p⟩] (Rect.unit (s := S512x16x192) ![270, 0, 0] S1x16x192.size inb_S512x16x192_S1x16x192_270_0_0).toLoadRect)) (M11.view.readCov (Val := Elt F) [⟨Rect.unit (s := S512x16x192) ![256, 0, 0] S256x16x192.size inb_S512x16x192_S256x16x192_256_0_0, p⟩] (Rect.unit (s := S512x16x192) ![269, 0, 0] S1x16x192.size inb_S512x16x192_S1x16x192_269_0_0).toLoadRect)) (M11.view.readCov (Val := Elt F) [⟨Rect.unit (s := S512x16x192) ![256, 0, 0] S256x16x192.size inb_S512x16x192_S256x16x192_256_0_0, p⟩] (Rect.unit (s := S512x16x192) ![268, 0, 0] S1x16x192.size inb_S512x16x192_S1x16x192_268_0_0).toLoadRect)) (M11.view.readCov (Val := Elt F) [⟨Rect.unit (s := S512x16x192) ![256, 0, 0] S256x16x192.size inb_S512x16x192_S256x16x192_256_0_0, p⟩] (Rect.unit (s := S512x16x192) ![267, 0, 0] S1x16x192.size inb_S512x16x192_S1x16x192_267_0_0).toLoadRect)) (M11.view.readCov (Val := Elt F) [⟨Rect.unit (s := S512x16x192) ![256, 0, 0] S256x16x192.size inb_S512x16x192_S256x16x192_256_0_0, p⟩] (Rect.unit (s := S512x16x192) ![266, 0, 0] S1x16x192.size inb_S512x16x192_S1x16x192_266_0_0).toLoadRect)) (M11.view.readCov (Val := Elt F) [⟨Rect.unit (s := S512x16x192) ![256, 0, 0] S256x16x192.size inb_S512x16x192_S256x16x192_256_0_0, p⟩] (Rect.unit (s := S512x16x192) ![265, 0, 0] S1x16x192.size inb_S512x16x192_S1x16x192_265_0_0).toLoadRect)) (M11.view.readCov (Val := Elt F) [⟨Rect.unit (s := S512x16x192) ![256, 0, 0] S256x16x192.size inb_S512x16x192_S256x16x192_256_0_0, p⟩] (Rect.unit (s := S512x16x192) ![264, 0, 0] S1x16x192.size inb_S512x16x192_S1x16x192_264_0_0).toLoadRect)) (M11.view.readCov (Val := Elt F) [⟨Rect.unit (s := S512x16x192) ![256, 0, 0] S256x16x192.size inb_S512x16x192_S256x16x192_256_0_0, p⟩] (Rect.unit (s := S512x16x192) ![263, 0, 0] S1x16x192.size inb_S512x16x192_S1x16x192_263_0_0).toLoadRect)) (M11.view.readCov (Val := Elt F) [⟨Rect.unit (s := S512x16x192) ![256, 0, 0] S256x16x192.size inb_S512x16x192_S256x16x192_256_0_0, p⟩] (Rect.unit (s := S512x16x192) ![262, 0, 0] S1x16x192.size inb_S512x16x192_S1x16x192_262_0_0).toLoadRect)) (M11.view.readCov (Val := Elt F) [⟨Rect.unit (s := S512x16x192) ![256, 0, 0] S256x16x192.size inb_S512x16x192_S256x16x192_256_0_0, p⟩] (Rect.unit (s := S512x16x192) ![261, 0, 0] S1x16x192.size inb_S512x16x192_S1x16x192_261_0_0).toLoadRect)) (M11.view.readCov (Val := Elt F) [⟨Rect.unit (s := S512x16x192) ![256, 0, 0] S256x16x192.size inb_S512x16x192_S256x16x192_256_0_0, p⟩] (Rect.unit (s := S512x16x192) ![260, 0, 0] S1x16x192.size inb_S512x16x192_S1x16x192_260_0_0).toLoadRect)) (M11.view.readCov (Val := Elt F) [⟨Rect.unit (s := S512x16x192) ![256, 0, 0] S256x16x192.size inb_S512x16x192_S256x16x192_256_0_0, p⟩] (Rect.unit (s := S512x16x192) ![259, 0, 0] S1x16x192.size inb_S512x16x192_S1x16x192_259_0_0).toLoadRect)) (M11.view.readCov (Val := Elt F) [⟨Rect.unit (s := S512x16x192) ![256, 0, 0] S256x16x192.size inb_S512x16x192_S256x16x192_256_0_0, p⟩] (Rect.unit (s := S512x16x192) ![258, 0, 0] S1x16x192.size inb_S512x16x192_S1x16x192_258_0_0).toLoadRect)) (M11.view.readCov (Val := Elt F) [⟨Rect.unit (s := S512x16x192) ![256, 0, 0] S256x16x192.size inb_S512x16x192_S256x16x192_256_0_0, p⟩] (Rect.unit (s := S512x16x192) ![257, 0, 0] S1x16x192.size inb_S512x16x192_S1x16x192_257_0_0).toLoadRect) := by
  unfold View.readCov
  rw [readAt_row M11.view _ 256 271 rfl rfl _ _ p (by decide) (by decide), readAt_row M11.view _ 256 270 rfl rfl _ _ p (by decide) (by decide), readAt_row M11.view _ 256 269 rfl rfl _ _ p (by decide) (by decide), readAt_row M11.view _ 256 268 rfl rfl _ _ p (by decide) (by decide), readAt_row M11.view _ 256 267 rfl rfl _ _ p (by decide) (by decide), readAt_row M11.view _ 256 266 rfl rfl _ _ p (by decide) (by decide), readAt_row M11.view _ 256 265 rfl rfl _ _ p (by decide) (by decide), readAt_row M11.view _ 256 264 rfl rfl _ _ p (by decide) (by decide), readAt_row M11.view _ 256 263 rfl rfl _ _ p (by decide) (by decide), readAt_row M11.view _ 256 262 rfl rfl _ _ p (by decide) (by decide), readAt_row M11.view _ 256 261 rfl rfl _ _ p (by decide) (by decide), readAt_row M11.view _ 256 260 rfl rfl _ _ p (by decide) (by decide), readAt_row M11.view _ 256 259 rfl rfl _ _ p (by decide) (by decide), readAt_row M11.view _ 256 258 rfl rfl _ _ p (by decide) (by decide), readAt_row M11.view _ 256 257 rfl rfl _ _ p (by decide) (by decide)]
  rfl

/-- The loop's carried values, over the scratch buffers as written. -/
theorem carryV_eq (c : Dev nD) (M0 : Memref sig .tc .vmem S512x16x64 .f32) (h0 : M0.IsWhole) (M1 : Memref sig .tc .vmem S512x16 .i32) (h1 : M1.IsWhole) (M2 : Memref sig .tc .vmem S512x16 .i32) (h2 : M2.IsWhole) (M3 : Memref sig .tc .vmem S1x64 .f32) (h3 : M3.IsWhole) (M4 : Memref sig .tc .vmem S1x64 .f32) (h4 : M4.IsWhole) (M5 : Memref sig .tc .vmem S64x64 .f32) (h5 : M5.IsWhole) (M6 : Memref sig .tc .vmem S64x64 .f32) (h6 : M6.IsWhole) (M7 : Memref sig .tc .vmem S64x64 .f32) (h7 : M7.IsWhole) (M8 : Memref sig .tc .vmem S64x64 .f32) (h8 : M8.IsWhole) (M9 : Memref sig .tc .vmem S1x1 .f32) (h9 : M9.IsWhole) (M10 : Memref sig .tc .vmem S512x16x192 .bf16) (h10 : M10.IsWhole) (M11 : Memref sig .tc .vmem S512x16x192 .bf16) (h11 : M11.IsWhole) (x0 : Vec F S512x16x64 .f32) (x2 : Vec F S512x16 .i32) (x3 : Vec F S1x64 .f32) (x4 : Vec F S1x64 .f32) (x5 : Vec F S64x64 .f32) (x6 : Vec F S64x64 .f32) (x7 : Vec F S64x64 .f32) (x8 : Vec F S64x64 .f32)
    (f10 : BufTy.Contents (Elt F) M10.view.ty) (f11 : BufTy.Contents (Elt F) M11.view.ty) : carryV x0 x2 x3 x4 x5 x6 x7 x8 =
    st_k0_t1 (F := F) 𝒱₀ c none M0 h0 M1 h1 M2 h2 M3 h3 M4 h4 M5 h5 M6 h6 M7 h7 M8 h8 M9 h9 M10 h10 M11 h11 (k0_pay66 x5 x6 x5 x6) (k0_pay67 x7 x8 x7 x8) (k0_pay68 x3)
      (M10.view.writes (Elt F) f10 [⟨Rect.unit (s := S512x16x192) ![0, 0, 0] S264x16x192.size inb_S512x16x192_S264x16x192_0_0_0, tabA x2 x0⟩])
      (M11.view.writes (Elt F) f11 [⟨Rect.unit (s := S512x16x192) ![256, 0, 0] S256x16x192.size inb_S512x16x192_S256x16x192_256_0_0, tabB x2 x0⟩])
      (k0_pay68 x3, k0_pay69 x4, k0_pay70, k0_pay70) k0_t1_loop.trips := by
  have ht : k0_t1_loop.trips = 15 := by decide
  rw [st_eq 𝒱₀ c none M0 h0 M1 h1 M2 h2 M3 h3 M4 h4 M5 h5 M6 h6 M7 h7 M8 h8 M9 h9 M10 h10 M11 h11 _ _ _ _ _ (rowAt 0 (tabA x2 x0)) (rowAt 256 (tabB x2 x0)) _ _ _ _ (Nat.le_refl _), ht]
  · rfl
  · intro k i
    have hk : k.val < 15 := ht ▸ k.isLt
    exact readAt_row M10.view f10 0 _ ((k0_off1_eq k i).trans (by rw [show 16 * k.val + i.val + 1 = 16 * k.val + i.val + 1 from rfl])) rfl _ _ (tabA x2 x0) (by omega) (by omega)
  · intro k i
    have hk : k.val < 15 := ht ▸ k.isLt
    exact readAt_row M11.view f11 256 _ (k0_off2_eq k i) rfl _ _ (tabB x2 x0) (by omega) (by omega)

/-- An integer array as the body loads it. -/
abbrev ldI (M : Memref sig .tc .vmem S512x16 .i32) (h : M.IsWhole) (x : Vec F S512x16 .i32) : IVec S512x16 32 :=
  M.view.readAt (Elt F) (Rect.unit (s := S512x16) ![0, 0] S512x16.size inb_S512x16_S512x16_0_0).toLoadRect (h.unread x)

section

variable (c : Dev nD) (M1 : Memref sig .tc .vmem S512x16 .i32) (h1 : M1.IsWhole) (M2 : Memref sig .tc .vmem S512x16 .i32) (h2 : M2.IsWhole) (x1 x2 : Vec F S512x16 .i32)

/-- The flags before the first scan. -/
theorem word6 : kernelRun.sl.v6 c M2 h2 x2 = flag_0 (flag0 (ldI M2 h2 x2)) := rfl
/-- The values before the first scan. -/
theorem word5 : ldI M1 h1 x1 = val_0 (ldI M1 h1 x1) (flag0 (ldI M2 h2 x2)) := rfl
/-- The flags before the second scan. -/
theorem word98 : kernelRun.sl.v98 c M2 h2 x2 = flag_0 (flag1 (ldI M2 h2 x2)) := rfl
/-- The first scan's flags after step 1. -/
theorem word16 : kernelRun.sl.v16 c M2 h2 x2 = flag_1 (flag0 (ldI M2 h2 x2)) := by
  have e : kernelRun.sl.v16 c M2 h2 x2 = flagStep 1 511 slices_S512x16_o0_0_S511x16 concatenates_S1x16_S511x16_S512x16_d0 (kernelRun.sl.v6 c M2 h2 x2) := rfl
  rw [e, word6]; rfl
/-- The first scan's values after step 1. -/
theorem word15 : (fun i => kernelRun.sl.v15 c M1 h1 M2 h2 x1 x2 i) = val_1 (ldI M1 h1 x1) (flag0 (ldI M2 h2 x2)) := by
  have e : (fun i => kernelRun.sl.v15 c M1 h1 M2 h2 x1 x2 i) = valStep 1 511 slices_S512x16_o0_0_S511x16 concatenates_S1x16_S511x16_S512x16_d0 (ldI M1 h1 x1) (kernelRun.sl.v6 c M2 h2 x2) := rfl
  rw [e, word6]; rfl
/-- The second scan's flags after step 1. -/
theorem word108 : kernelRun.sl.v108 c M2 h2 x2 = flag_1 (flag1 (ldI M2 h2 x2)) := by
  have e : kernelRun.sl.v108 c M2 h2 x2 = flagStep 1 511 slices_S512x16_o0_0_S511x16 concatenates_S1x16_S511x16_S512x16_d0 (kernelRun.sl.v98 c M2 h2 x2) := rfl
  rw [e, word98]; rfl
/-- The second scan's values after step 1. -/
theorem word107 : (fun i => kernelRun.sl.v107 c M1 h1 M2 h2 x1 x2 i) = val_1 (ldI M1 h1 x1) (flag1 (ldI M2 h2 x2)) := by
  have e : (fun i => kernelRun.sl.v107 c M1 h1 M2 h2 x1 x2 i) = valStep 1 511 slices_S512x16_o0_0_S511x16 concatenates_S1x16_S511x16_S512x16_d0 (ldI M1 h1 x1) (kernelRun.sl.v98 c M2 h2 x2) := rfl
  rw [e, word98]; rfl
/-- The first scan's flags after step 2. -/
theorem word26 : kernelRun.sl.v26 c M2 h2 x2 = flag_2 (flag0 (ldI M2 h2 x2)) := by
  have e : kernelRun.sl.v26 c M2 h2 x2 = flagStep 2 510 slices_S512x16_o0_0_S510x16 concatenates_S2x16_S510x16_S512x16_d0 (kernelRun.sl.v16 c M2 h2 x2) := rfl
  rw [e, word16]; rfl
/-- The first scan's values after step 2. -/
theorem word25 : (fun i => kernelRun.sl.v25 c M1 h1 M2 h2 x1 x2 i) = val_2 (ldI M1 h1 x1) (flag0 (ldI M2 h2 x2)) := by
  have e : (fun i => kernelRun.sl.v25 c M1 h1 M2 h2 x1 x2 i) = valStep 2 510 slices_S512x16_o0_0_S510x16 concatenates_S2x16_S510x16_S512x16_d0 ((fun i => kernelRun.sl.v15 c M1 h1 M2 h2 x1 x2 i)) (kernelRun.sl.v16 c M2 h2 x2) := rfl
  rw [e, word16, word15]; rfl
/-- The second scan's flags after step 2. -/
theorem word118 : kernelRun.sl.v118 c M2 h2 x2 = flag_2 (flag1 (ldI M2 h2 x2)) := by
  have e : kernelRun.sl.v118 c M2 h2 x2 = flagStep 2 510 slices_S512x16_o0_0_S510x16 concatenates_S2x16_S510x16_S512x16_d0 (kernelRun.sl.v108 c M2 h2 x2) := rfl
  rw [e, word108]; rfl
/-- The second scan's values after step 2. -/
theorem word117 : (fun i => kernelRun.sl.v117 c M1 h1 M2 h2 x1 x2 i) = val_2 (ldI M1 h1 x1) (flag1 (ldI M2 h2 x2)) := by
  have e : (fun i => kernelRun.sl.v117 c M1 h1 M2 h2 x1 x2 i) = valStep 2 510 slices_S512x16_o0_0_S510x16 concatenates_S2x16_S510x16_S512x16_d0 ((fun i => kernelRun.sl.v107 c M1 h1 M2 h2 x1 x2 i)) (kernelRun.sl.v108 c M2 h2 x2) := rfl
  rw [e, word108, word107]; rfl
/-- The first scan's flags after step 3. -/
theorem word36 : kernelRun.sl.v36 c M2 h2 x2 = flag_3 (flag0 (ldI M2 h2 x2)) := by
  have e : kernelRun.sl.v36 c M2 h2 x2 = flagStep 4 508 slices_S512x16_o0_0_S508x16 concatenates_S4x16_S508x16_S512x16_d0 (kernelRun.sl.v26 c M2 h2 x2) := rfl
  rw [e, word26]; rfl
/-- The first scan's values after step 3. -/
theorem word35 : (fun i => kernelRun.sl.v35 c M1 h1 M2 h2 x1 x2 i) = val_3 (ldI M1 h1 x1) (flag0 (ldI M2 h2 x2)) := by
  have e : (fun i => kernelRun.sl.v35 c M1 h1 M2 h2 x1 x2 i) = valStep 4 508 slices_S512x16_o0_0_S508x16 concatenates_S4x16_S508x16_S512x16_d0 ((fun i => kernelRun.sl.v25 c M1 h1 M2 h2 x1 x2 i)) (kernelRun.sl.v26 c M2 h2 x2) := rfl
  rw [e, word26, word25]; rfl
/-- The second scan's flags after step 3. -/
theorem word128 : kernelRun.sl.v128 c M2 h2 x2 = flag_3 (flag1 (ldI M2 h2 x2)) := by
  have e : kernelRun.sl.v128 c M2 h2 x2 = flagStep 4 508 slices_S512x16_o0_0_S508x16 concatenates_S4x16_S508x16_S512x16_d0 (kernelRun.sl.v118 c M2 h2 x2) := rfl
  rw [e, word118]; rfl
/-- The second scan's values after step 3. -/
theorem word127 : (fun i => kernelRun.sl.v127 c M1 h1 M2 h2 x1 x2 i) = val_3 (ldI M1 h1 x1) (flag1 (ldI M2 h2 x2)) := by
  have e : (fun i => kernelRun.sl.v127 c M1 h1 M2 h2 x1 x2 i) = valStep 4 508 slices_S512x16_o0_0_S508x16 concatenates_S4x16_S508x16_S512x16_d0 ((fun i => kernelRun.sl.v117 c M1 h1 M2 h2 x1 x2 i)) (kernelRun.sl.v118 c M2 h2 x2) := rfl
  rw [e, word118, word117]; rfl
/-- The first scan's flags after step 4. -/
theorem word46 : kernelRun.sl.v46 c M2 h2 x2 = flag_4 (flag0 (ldI M2 h2 x2)) := by
  have e : kernelRun.sl.v46 c M2 h2 x2 = flagStep 8 504 slices_S512x16_o0_0_S504x16 concatenates_S8x16_S504x16_S512x16_d0 (kernelRun.sl.v36 c M2 h2 x2) := rfl
  rw [e, word36]; rfl
/-- The first scan's values after step 4. -/
theorem word45 : (fun i => kernelRun.sl.v45 c M1 h1 M2 h2 x1 x2 i) = val_4 (ldI M1 h1 x1) (flag0 (ldI M2 h2 x2)) := by
  have e : (fun i => kernelRun.sl.v45 c M1 h1 M2 h2 x1 x2 i) = valStep 8 504 slices_S512x16_o0_0_S504x16 concatenates_S8x16_S504x16_S512x16_d0 ((fun i => kernelRun.sl.v35 c M1 h1 M2 h2 x1 x2 i)) (kernelRun.sl.v36 c M2 h2 x2) := rfl
  rw [e, word36, word35]; rfl
/-- The second scan's flags after step 4. -/
theorem word138 : kernelRun.sl.v138 c M2 h2 x2 = flag_4 (flag1 (ldI M2 h2 x2)) := by
  have e : kernelRun.sl.v138 c M2 h2 x2 = flagStep 8 504 slices_S512x16_o0_0_S504x16 concatenates_S8x16_S504x16_S512x16_d0 (kernelRun.sl.v128 c M2 h2 x2) := rfl
  rw [e, word128]; rfl
/-- The second scan's values after step 4. -/
theorem word137 : (fun i => kernelRun.sl.v137 c M1 h1 M2 h2 x1 x2 i) = val_4 (ldI M1 h1 x1) (flag1 (ldI M2 h2 x2)) := by
  have e : (fun i => kernelRun.sl.v137 c M1 h1 M2 h2 x1 x2 i) = valStep 8 504 slices_S512x16_o0_0_S504x16 concatenates_S8x16_S504x16_S512x16_d0 ((fun i => kernelRun.sl.v127 c M1 h1 M2 h2 x1 x2 i)) (kernelRun.sl.v128 c M2 h2 x2) := rfl
  rw [e, word128, word127]; rfl
/-- The first scan's flags after step 5. -/
theorem word56 : kernelRun.sl.v56 c M2 h2 x2 = flag_5 (flag0 (ldI M2 h2 x2)) := by
  have e : kernelRun.sl.v56 c M2 h2 x2 = flagStep 16 496 slices_S512x16_o0_0_S496x16 concatenates_S16x16_S496x16_S512x16_d0 (kernelRun.sl.v46 c M2 h2 x2) := rfl
  rw [e, word46]; rfl
/-- The first scan's values after step 5. -/
theorem word55 : (fun i => kernelRun.sl.v55 c M1 h1 M2 h2 x1 x2 i) = val_5 (ldI M1 h1 x1) (flag0 (ldI M2 h2 x2)) := by
  have e : (fun i => kernelRun.sl.v55 c M1 h1 M2 h2 x1 x2 i) = valStep 16 496 slices_S512x16_o0_0_S496x16 concatenates_S16x16_S496x16_S512x16_d0 ((fun i => kernelRun.sl.v45 c M1 h1 M2 h2 x1 x2 i)) (kernelRun.sl.v46 c M2 h2 x2) := rfl
  rw [e, word46, word45]; rfl
/-- The second scan's flags after step 5. -/
theorem word148 : kernelRun.sl.v148 c M2 h2 x2 = flag_5 (flag1 (ldI M2 h2 x2)) := by
  have e : kernelRun.sl.v148 c M2 h2 x2 = flagStep 16 496 slices_S512x16_o0_0_S496x16 concatenates_S16x16_S496x16_S512x16_d0 (kernelRun.sl.v138 c M2 h2 x2) := rfl
  rw [e, word138]; rfl
/-- The second scan's values after step 5. -/
theorem word147 : (fun i => kernelRun.sl.v147 c M1 h1 M2 h2 x1 x2 i) = val_5 (ldI M1 h1 x1) (flag1 (ldI M2 h2 x2)) := by
  have e : (fun i => kernelRun.sl.v147 c M1 h1 M2 h2 x1 x2 i) = valStep 16 496 slices_S512x16_o0_0_S496x16 concatenates_S16x16_S496x16_S512x16_d0 ((fun i => kernelRun.sl.v137 c M1 h1 M2 h2 x1 x2 i)) (kernelRun.sl.v138 c M2 h2 x2) := rfl
  rw [e, word138, word137]; rfl
/-- The first scan's flags after step 6. -/
theorem word66 : kernelRun.sl.v66 c M2 h2 x2 = flag_6 (flag0 (ldI M2 h2 x2)) := by
  have e : kernelRun.sl.v66 c M2 h2 x2 = flagStep 32 480 slices_S512x16_o0_0_S480x16 concatenates_S32x16_S480x16_S512x16_d0 (kernelRun.sl.v56 c M2 h2 x2) := rfl
  rw [e, word56]; rfl
/-- The first scan's values after step 6. -/
theorem word65 : (fun i => kernelRun.sl.v65 c M1 h1 M2 h2 x1 x2 i) = val_6 (ldI M1 h1 x1) (flag0 (ldI M2 h2 x2)) := by
  have e : (fun i => kernelRun.sl.v65 c M1 h1 M2 h2 x1 x2 i) = valStep 32 480 slices_S512x16_o0_0_S480x16 concatenates_S32x16_S480x16_S512x16_d0 ((fun i => kernelRun.sl.v55 c M1 h1 M2 h2 x1 x2 i)) (kernelRun.sl.v56 c M2 h2 x2) := rfl
  rw [e, word56, word55]; rfl
/-- The second scan's flags after step 6. -/
theorem word158 : kernelRun.sl.v158 c M2 h2 x2 = flag_6 (flag1 (ldI M2 h2 x2)) := by
  have e : kernelRun.sl.v158 c M2 h2 x2 = flagStep 32 480 slices_S512x16_o0_0_S480x16 concatenates_S32x16_S480x16_S512x16_d0 (kernelRun.sl.v148 c M2 h2 x2) := rfl
  rw [e, word148]; rfl
/-- The second scan's values after step 6. -/
theorem word157 : (fun i => kernelRun.sl.v157 c M1 h1 M2 h2 x1 x2 i) = val_6 (ldI M1 h1 x1) (flag1 (ldI M2 h2 x2)) := by
  have e : (fun i => kernelRun.sl.v157 c M1 h1 M2 h2 x1 x2 i) = valStep 32 480 slices_S512x16_o0_0_S480x16 concatenates_S32x16_S480x16_S512x16_d0 ((fun i => kernelRun.sl.v147 c M1 h1 M2 h2 x1 x2 i)) (kernelRun.sl.v148 c M2 h2 x2) := rfl
  rw [e, word148, word147]; rfl
/-- The first scan's flags after step 7. -/
theorem word76 : kernelRun.sl.v76 c M2 h2 x2 = flag_7 (flag0 (ldI M2 h2 x2)) := by
  have e : kernelRun.sl.v76 c M2 h2 x2 = flagStep 64 448 slices_S512x16_o0_0_S448x16 concatenates_S64x16_S448x16_S512x16_d0 (kernelRun.sl.v66 c M2 h2 x2) := rfl
  rw [e, word66]; rfl
/-- The first scan's values after step 7. -/
theorem word75 : (fun i => kernelRun.sl.v75 c M1 h1 M2 h2 x1 x2 i) = val_7 (ldI M1 h1 x1) (flag0 (ldI M2 h2 x2)) := by
  have e : (fun i => kernelRun.sl.v75 c M1 h1 M2 h2 x1 x2 i) = valStep 64 448 slices_S512x16_o0_0_S448x16 concatenates_S64x16_S448x16_S512x16_d0 ((fun i => kernelRun.sl.v65 c M1 h1 M2 h2 x1 x2 i)) (kernelRun.sl.v66 c M2 h2 x2) := rfl
  rw [e, word66, word65]; rfl
/-- The second scan's flags after step 7. -/
theorem word168 : kernelRun.sl.v168 c M2 h2 x2 = flag_7 (flag1 (ldI M2 h2 x2)) := by
  have e : kernelRun.sl.v168 c M2 h2 x2 = flagStep 64 448 slices_S512x16_o0_0_S448x16 concatenates_S64x16_S448x16_S512x16_d0 (kernelRun.sl.v158 c M2 h2 x2) := rfl
  rw [e, word158]; rfl
/-- The second scan's values after step 7. -/
theorem word167 : (fun i => kernelRun.sl.v167 c M1 h1 M2 h2 x1 x2 i) = val_7 (ldI M1 h1 x1) (flag1 (ldI M2 h2 x2)) := by
  have e : (fun i => kernelRun.sl.v167 c M1 h1 M2 h2 x1 x2 i) = valStep 64 448 slices_S512x16_o0_0_S448x16 concatenates_S64x16_S448x16_S512x16_d0 ((fun i => kernelRun.sl.v157 c M1 h1 M2 h2 x1 x2 i)) (kernelRun.sl.v158 c M2 h2 x2) := rfl
  rw [e, word158, word157]; rfl
/-- The first scan's flags after step 8. -/
theorem word86 : kernelRun.sl.v86 c M2 h2 x2 = flag_8 (flag0 (ldI M2 h2 x2)) := by
  have e : kernelRun.sl.v86 c M2 h2 x2 = flagStep 128 384 slices_S512x16_o0_0_S384x16 concatenates_S128x16_S384x16_S512x16_d0 (kernelRun.sl.v76 c M2 h2 x2) := rfl
  rw [e, word76]; rfl
/-- The first scan's values after step 8. -/
theorem word85 : (fun i => kernelRun.sl.v85 c M1 h1 M2 h2 x1 x2 i) = val_8 (ldI M1 h1 x1) (flag0 (ldI M2 h2 x2)) := by
  have e : (fun i => kernelRun.sl.v85 c M1 h1 M2 h2 x1 x2 i) = valStep 128 384 slices_S512x16_o0_0_S384x16 concatenates_S128x16_S384x16_S512x16_d0 ((fun i => kernelRun.sl.v75 c M1 h1 M2 h2 x1 x2 i)) (kernelRun.sl.v76 c M2 h2 x2) := rfl
  rw [e, word76, word75]; rfl
/-- The second scan's flags after step 8. -/
theorem word178 : kernelRun.sl.v178 c M2 h2 x2 = flag_8 (flag1 (ldI M2 h2 x2)) := by
  have e : kernelRun.sl.v178 c M2 h2 x2 = flagStep 128 384 slices_S512x16_o0_0_S384x16 concatenates_S128x16_S384x16_S512x16_d0 (kernelRun.sl.v168 c M2 h2 x2) := rfl
  rw [e, word168]; rfl
/-- The second scan's values after step 8. -/
theorem word177 : (fun i => kernelRun.sl.v177 c M1 h1 M2 h2 x1 x2 i) = val_8 (ldI M1 h1 x1) (flag1 (ldI M2 h2 x2)) := by
  have e : (fun i => kernelRun.sl.v177 c M1 h1 M2 h2 x1 x2 i) = valStep 128 384 slices_S512x16_o0_0_S384x16 concatenates_S128x16_S384x16_S512x16_d0 ((fun i => kernelRun.sl.v167 c M1 h1 M2 h2 x1 x2 i)) (kernelRun.sl.v168 c M2 h2 x2) := rfl
  rw [e, word168, word167]; rfl
/-- The first scan's flags after step 9. -/
theorem word96 : kernelRun.sl.v96 c M2 h2 x2 = flag_9 (flag0 (ldI M2 h2 x2)) := by
  have e : kernelRun.sl.v96 c M2 h2 x2 = flagStep 256 256 slices_S512x16_o0_0_S256x16 concatenates_S256x16_S256x16_S512x16_d0 (kernelRun.sl.v86 c M2 h2 x2) := rfl
  rw [e, word86]; rfl
/-- The first scan's values after step 9. -/
theorem word95 : (fun i => kernelRun.sl.v95 c M1 h1 M2 h2 x1 x2 i) = val_9 (ldI M1 h1 x1) (flag0 (ldI M2 h2 x2)) := by
  have e : (fun i => kernelRun.sl.v95 c M1 h1 M2 h2 x1 x2 i) = valStep 256 256 slices_S512x16_o0_0_S256x16 concatenates_S256x16_S256x16_S512x16_d0 ((fun i => kernelRun.sl.v85 c M1 h1 M2 h2 x1 x2 i)) (kernelRun.sl.v86 c M2 h2 x2) := rfl
  rw [e, word86, word85]; rfl

end

/-- What the body leaves in the result's buffer is `crfOut` of the arguments' blocks, whatever the scratch buffers held. -/
theorem kernelRun_eq (c : Dev nD) (M0 : Memref sig .tc .vmem S512x16x64 .f32) (h0 : M0.IsWhole) (M1 : Memref sig .tc .vmem S512x16 .i32) (h1 : M1.IsWhole) (M2 : Memref sig .tc .vmem S512x16 .i32) (h2 : M2.IsWhole) (M3 : Memref sig .tc .vmem S1x64 .f32) (h3 : M3.IsWhole) (M4 : Memref sig .tc .vmem S1x64 .f32) (h4 : M4.IsWhole) (M5 : Memref sig .tc .vmem S64x64 .f32) (h5 : M5.IsWhole) (M6 : Memref sig .tc .vmem S64x64 .f32) (h6 : M6.IsWhole) (M7 : Memref sig .tc .vmem S64x64 .f32) (h7 : M7.IsWhole) (M8 : Memref sig .tc .vmem S64x64 .f32) (h8 : M8.IsWhole) (M9 : Memref sig .tc .vmem S1x1 .f32) (h9 : M9.IsWhole) (M10 : Memref sig .tc .vmem S512x16x192 .bf16) (h10 : M10.IsWhole) (M11 : Memref sig .tc .vmem S512x16x192 .bf16) (h11 : M11.IsWhole) (x0 : Vec F S512x16x64 .f32) (x1 : Vec F S512x16 .i32) (x2 : Vec F S512x16 .i32) (x3 : Vec F S1x64 .f32) (x4 : Vec F S1x64 .f32) (x5 : Vec F S64x64 .f32) (x6 : Vec F S64x64 .f32) (x7 : Vec F S64x64 .f32) (x8 : Vec F S64x64 .f32)
    (f10 : BufTy.Contents (Elt F) M10.view.ty) (f11 : BufTy.Contents (Elt F) M11.view.ty) : (kernelRun c M0 h0 M1 h1 M2 h2 M3 h3 M4 h4 M5 h5 M6 h6 M7 h7 M8 h8 M9 h9 M10 h10 M11 h11 x0 x1 x2 x3 x4 x5 x6 x7 x8 f10 f11).1 = crfOut x0 x1 x2 x3 x4 x5 x6 x7 x8 := by
  have e0 := readAt_all M0 h0 x0 (off := ![0, 0, 0]) (by decide) inb_S512x16x64_S512x16x64_0_0_0
  have e1 := readAt_all M1 h1 x1 (off := ![0, 0]) (by decide) inb_S512x16_S512x16_0_0
  have e2 := readAt_all M2 h2 x2 (off := ![0, 0]) (by decide) inb_S512x16_S512x16_0_0
  have e3 := readAt_all M3 h3 x3 (off := ![0, 0]) (by decide) inb_S1x64_S1x64_0_0
  have e4 := readAt_all M4 h4 x4 (off := ![0, 0]) (by decide) inb_S1x64_S1x64_0_0
  have e5 := readAt_all M5 h5 x5 (off := ![0, 0]) (by decide) inb_S64x64_S64x64_0_0
  have e6 := readAt_all M6 h6 x6 (off := ![0, 0]) (by decide) inb_S64x64_S64x64_0_0
  have e7 := readAt_all M7 h7 x7 (off := ![0, 0]) (by decide) inb_S64x64_S64x64_0_0
  have e8 := readAt_all M8 h8 x8 (off := ![0, 0]) (by decide) inb_S64x64_S64x64_0_0
  have hx : crfOut x0 x1 x2 x3 x4 x5 x6 x7 x8 = crfOut (M0.view.readAt (Elt F) (Rect.unit (s := S512x16x64) ![0, 0, 0] S512x16x64.size inb_S512x16x64_S512x16x64_0_0_0).toLoadRect (h0.unread x0)) (M1.view.readAt (Elt F) (Rect.unit (s := S512x16) ![0, 0] S512x16.size inb_S512x16_S512x16_0_0).toLoadRect (h1.unread x1)) (M2.view.readAt (Elt F) (Rect.unit (s := S512x16) ![0, 0] S512x16.size inb_S512x16_S512x16_0_0).toLoadRect (h2.unread x2)) (M3.view.readAt (Elt F) (Rect.unit (s := S1x64) ![0, 0] S1x64.size inb_S1x64_S1x64_0_0).toLoadRect (h3.unread x3)) (M4.view.readAt (Elt F) (Rect.unit (s := S1x64) ![0, 0] S1x64.size inb_S1x64_S1x64_0_0).toLoadRect (h4.unread x4)) (M5.view.readAt (Elt F) (Rect.unit (s := S64x64) ![0, 0] S64x64.size inb_S64x64_S64x64_0_0).toLoadRect (h5.unread x5)) (M6.view.readAt (Elt F) (Rect.unit (s := S64x64) ![0, 0] S64x64.size inb_S64x64_S64x64_0_0).toLoadRect (h6.unread x6)) (M7.view.readAt (Elt F) (Rect.unit (s := S64x64) ![0, 0] S64x64.size inb_S64x64_S64x64_0_0).toLoadRect (h7.unread x7)) (M8.view.readAt (Elt F) (Rect.unit (s := S64x64) ![0, 0] S64x64.size inb_S64x64_S64x64_0_0).toLoadRect (h8.unread x8)) := by
    rw [e0, e1, e2, e3, e4, e5, e6, e7, e8]
  rw [hx]
  clear hx e0 e1 e2 e3 e4 e5 e6 e7 e8
  unfold crfOut
  dsimp only
  rw [lastF_eq M10, lastB_eq M11, carryV_eq c M0 h0 M1 h1 M2 h2 M3 h3 M4 h4 M5 h5 M6 h6 M7 h7 M8 h8 M9 h9 M10 h10 M11 h11 _ _ _ _ _ _ _ _ f10 f11]
  unfold kernelRun
  dsimp only
  unfold kernelRun.sl.H9_1
  refine (View.read_writes_full M9.view _ _ _ _).trans ?_
  unfold numer tabA tabB prevSame inertF
  rw [← word95 c M1 h1 M2 h2 x1 x2, ← word177 c M1 h1 M2 h2 x1 x2, ← word178 c M2 h2 x2, ← word96 c M2 h2 x2]
  rfl

end Cert.Proof.KI

end
-- ==== Proof.KI.Run.lean ====
module

public import proofs.«01_k».proof.Proof.Gen.KernelIdeal.Loops
public import proofs.«01_k».proof.Proof.Gen.KernelIdeal.Frame
public import Idealize.ShloMosaic.Lib.Tactic
public import proofs.«01_k».proof.Proof.KI.BodyValue

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-! The run of the whole program from any memory, and what it leaves. -/

/-- The proof's resource algebra: the launch's. -/
local notation "𝕄" => MT nD τ sig Unit (Elt F) ℕ (UR sig nD τ) ℕ

variable (m : (ℓ : Loc nD τ sig) → Buf (Elt F) ℓ) (ρ : Dev nD → PrngReg)

/-- The result as `crfOut` of the arguments' blocks. -/
def outAt (c : Dev nD) (t : Fin cfg0.N) : Vec F S1x1 .f32 :=
  crfOut (iblk m c 0 t) (iblk m c 1 t) (iblk m c 2 t) (iblk m c 3 t) (iblk m c 4 t) (iblk m c 5 t) (iblk m c 6 t) (iblk m c 7 t) (iblk m c 8 t)

/-- The launch's proof data: each argument's buffer is left at its block, the result's at `outAt`; between points the
    scratch buffers hold something. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! The staging memrefs at a point. -/
abbrev ms0_0 (t : Fin cfg0.N) : Memref sig .tc .vmem S512x16x64 .f32 := win0_0.stage (cfg0.slots t 0)
abbrev hs0_0 (t : Fin cfg0.N) : (ms0_0 t).IsWhole := hstage0_0 0
abbrev ms0_1 (t : Fin cfg0.N) : Memref sig .tc .vmem S512x16 .i32 := win0_1.stage (cfg0.slots t 1)
abbrev hs0_1 (t : Fin cfg0.N) : (ms0_1 t).IsWhole := hstage0_1 0
abbrev ms0_2 (t : Fin cfg0.N) : Memref sig .tc .vmem S512x16 .i32 := win0_2.stage (cfg0.slots t 2)
abbrev hs0_2 (t : Fin cfg0.N) : (ms0_2 t).IsWhole := hstage0_2 0
abbrev ms0_3 (t : Fin cfg0.N) : Memref sig .tc .vmem S1x64 .f32 := win0_3.stage (cfg0.slots t 3)
abbrev hs0_3 (t : Fin cfg0.N) : (ms0_3 t).IsWhole := hstage0_3 0
abbrev ms0_4 (t : Fin cfg0.N) : Memref sig .tc .vmem S1x64 .f32 := win0_4.stage (cfg0.slots t 4)
abbrev hs0_4 (t : Fin cfg0.N) : (ms0_4 t).IsWhole := hstage0_4 0
abbrev ms0_5 (t : Fin cfg0.N) : Memref sig .tc .vmem S64x64 .f32 := win0_5.stage (cfg0.slots t 5)
abbrev hs0_5 (t : Fin cfg0.N) : (ms0_5 t).IsWhole := hstage0_5 0
abbrev ms0_6 (t : Fin cfg0.N) : Memref sig .tc .vmem S64x64 .f32 := win0_6.stage (cfg0.slots t 6)
abbrev hs0_6 (t : Fin cfg0.N) : (ms0_6 t).IsWhole := hstage0_6 0
abbrev ms0_7 (t : Fin cfg0.N) : Memref sig .tc .vmem S64x64 .f32 := win0_7.stage (cfg0.slots t 7)
abbrev hs0_7 (t : Fin cfg0.N) : (ms0_7 t).IsWhole := hstage0_7 0
abbrev ms0_8 (t : Fin cfg0.N) : Memref sig .tc .vmem S64x64 .f32 := win0_8.stage (cfg0.slots t 8)
abbrev hs0_8 (t : Fin cfg0.N) : (ms0_8 t).IsWhole := hstage0_8 0
abbrev ms0_9 (t : Fin cfg0.N) : Memref sig .tc .vmem S1x1 .f32 := win0_9.stage (cfg0.slots t 9)
abbrev hs0_9 (t : Fin cfg0.N) : (ms0_9 t).IsWhole := hstage0_9 0

/-- A scratch buffer held whole, in the two spellings used. -/
theorem scratch_eq (c : Dev nD) (b : Ref sig .tc) (f : Buf (Elt F) ((c : Thread nD τ).loc b)) :
    (((c : Thread nD τ).loc b) ↦{fullShare} f : sProp 𝕄)
      = ((View.whole b).loc (c : Thread nD τ) ↦[(View.whole b).set]{fullShare} f) := by
  rw [View.set_whole]

/-- At every point the body takes the arguments' blocks and the scratch buffers to the state the proof data say. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3, after0_4, after0_5, after0_6, after0_7, after0_8, after0_9]
  unfold Pipeline.ΦA outAt
  rw [scopedRest0_eq]
  simp only [scratch_eq]
  iintro ⟨⟨⟨⟨%f10, H10⟩, ⟨%f11, H11⟩⟩, Hρ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [← kernelRun_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) (iblk m c 8 t) f10 f11]
  iapply ((kernelRun c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (Memref.whole cc0_scratch0) (Memref.isWhole_whole _) (Memref.whole cc0_scratch1) (Memref.isWhole_whole _)
    (iblk m c 0 t) (iblk m c 1 t) (iblk m c 2 t) (iblk m c 3 t) (iblk m c 4 t) (iblk m c 5 t) (iblk m c 6 t) (iblk m c 7 t) (iblk m c 8 t) f10 f11).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  iintro ⟨H0, H1, H2, H3, H4, H5, H6, H7, H8, H9, ⟨%g10, H10⟩, ⟨%g11, H11⟩⟩
  isplitl [H10 H11 Hρ]
  · isplitr [Hρ]
    · isplitl [H10]
      · iexists _; iexact H10
      iexists _; iexact H11
    iexact Hρ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option backward.isDefEq.respectTransparency.types false in
/-- From any memory with zero counters, every weakly fair execution of the program ends with every array at what the
    proof data compute and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) 0 launch0 defs₀ 𝒱₀ m ρ main
    (hbody := fun c => (body_obligation m c).loose) (hshare := fun c => (dats m 0 c).share_full fun _ => rfl)
    (howed := fun _ _ => rfl) (V₀ := Gen.V0 m) (opss := [Gen.hostOps1]) (hsub := Gen.sfx_sub) (hfresh := Gen.sfx_fresh)
    (hkeep := Gen.sfx_keeps) (hmain := Gen.hmain m 𝒱₀) (hA := fun _ _ => rfl) (hΦ := fun _ _ => rfl)

/-- The frame: every execution ends, the eight arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_with_sems (Gen.frame_of m ρ (dats m) fun _ _ => rfl) (run_main m ρ)

end Cert.Proof.KI

end
-- ==== Proof.R.Frame.lean ====
module

public import proofs.«01_k».proof.Proof.Gen.ReferenceIdeal.Run
public import Idealize.ShloMosaic.Lib.Quiescent

@[expose] public section

set_option maxRecDepth 16384

noncomputable section

namespace Cert.Proof.R

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-! The reference's run: it ends, leaves its arguments as they were and moves no semaphore. -/

/-- The references the lines after the loop write, in order. -/
abbrev tail_W : List (Ref sig .tc) := [main_v169, main_v170, main_v171, main_cst_41, main_v172, main_v173, main_v174, main_v175, main_v176, main_v177, main_cst_42, main_v178, main_v179, main_v180, main_v181, main_cst_43, main_v182]
theorem tail_writes : (hostOps0_5 : List (HloOp τ sig (Elt F))).Forall fun op => op.writes ⊆ (tail_W.map (Proc.devRef (τ := τ) .tc)).toFinset :=
  StableHlo.forall_writes_sub_of_map rfl

/-- A buffer that no line before the loop writes is, at the loop's entry, as the program found it. -/
theorem entry_keep (c : Dev nD) (r : Ref sig .tc) (h0 : r ∉ hostOps0_W) (h1 : r ∉ hostOps0_1_W) (h2 : r ∉ hostOps0_2_W)
    (h3 : r ∉ hostOps0_3_W) (h4 : r ∉ hostOps0_4_W) :
    entryContents preI m c (Proc.devRef .tc r) = m ((c.tc : Thread nD τ).loc r) := by
  simp only [entryContents, afterL_cons, afterL_nil]
  rw [after_of_writes_sub hostOps0_4 _ hostOps0_4_writes h4, after_of_writes_sub hostOps0_3 _ hostOps0_3_writes h3,
    after_of_writes_sub hostOps0_2 _ hostOps0_2_writes h2, after_of_writes_sub hostOps0_1 _ hostOps0_1_writes h1,
    after_of_writes_sub hostOps0 _ hostOps0_writes h0]

/-- A buffer that no line of the loop writes stays as at the loop's entry. -/
theorem trips_keep (c : Dev nD) (r : Ref sig .tc) (hc : r ∉ condOps_W) (h0 : r ∉ while0Ops0_W) (h1 : r ∉ while0Ops0_1_W)
    (h2 : r ∉ while0Ops0_2_W) : ∀ k, atK m k c (Proc.devRef .tc r) = entryContents preI m c (Proc.devRef .tc r)
  | 0 => rfl
  | k + 1 => by
    rw [show atK m (k + 1) c = afterL bodyI (after condOps (atK m k c)) from rfl]
    simp only [afterL_cons, afterL_nil]
    rw [after_of_writes_sub while0Ops0_2 _ while0Ops0_2_writes h2, after_of_writes_sub while0Ops0_1 _ while0Ops0_1_writes h1,
      after_of_writes_sub while0Ops0 _ while0Ops0_writes h0, after_of_writes_sub condOps _ condOps_writes hc, trips_keep c r hc h0 h1 h2 k]
    rfl

/-- A buffer no line of the loop or after it writes ends as at the loop's entry. -/
theorem final_keep (c : Dev nD) (r : Ref sig .tc) (hc : r ∉ condOps_W) (h0 : r ∉ while0Ops0_W) (h1 : r ∉ while0Ops0_1_W)
    (h2 : r ∉ while0Ops0_2_W) (ht : r ∉ tail_W) :
    finalContents condOps preI bodyI postI 511 m c (Proc.devRef .tc r) = entryContents preI m c (Proc.devRef .tc r) := by
  simp only [finalContents, afterL_cons, afterL_nil]
  rw [after_of_writes_sub hostOps0_5 _ tail_writes ht, after_of_writes_sub condOps _ condOps_writes hc]
  exact trips_keep m c r hc h0 h1 h2 511

/-- The program ends with every argument unchanged, every semaphore counter at zero, and each unscoped buffer at what the
    lines compute. -/
theorem run_args : θ_run (defs (F := F)) (onTc (τ := τ) (main (F := F))) ⟨m, fun _ => 0, ρ⟩ (fun r => ((∀ c : Dev nD,
      r.2.mem ((c.tc : Thread nD τ).loc main_v182) = finalContents condOps preI bodyI postI 511 m c (Proc.devRef .tc main_v182)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)) := by
  refine (θ_run defs _ _).mono (fun r h => ⟨fun c => ⟨h c main_v182 rfl, (h c main_arg0 rfl).trans ?_, (h c main_arg1 rfl).trans ?_, (h c main_arg2 rfl).trans ?_, (h c main_arg3 rfl).trans ?_, (h c main_arg4 rfl).trans ?_, (h c main_arg5 rfl).trans ?_, (h c main_arg6 rfl).trans ?_, (h c main_arg7 rfl).trans ?_⟩, sem_eq_zero_of_no_sems rfl _⟩)
    (run_fold m ρ)
  · exact (final_keep m c main_arg0 (by decide +kernel) (by decide +kernel) (by decide +kernel) (by decide +kernel) (by decide +kernel)).trans (entry_keep m c main_arg0 (by decide +kernel) (by decide +kernel) (by decide +kernel) (by decide +kernel) (by decide +kernel))
  · exact (final_keep m c main_arg1 (by decide +kernel) (by decide +kernel) (by decide +kernel) (by decide +kernel) (by decide +kernel)).trans (entry_keep m c main_arg1 (by decide +kernel) (by decide +kernel) (by decide +kernel) (by decide +kernel) (by decide +kernel))
  · exact (final_keep m c main_arg2 (by decide +kernel) (by decide +kernel) (by decide +kernel) (by decide +kernel) (by decide +kernel)).trans (entry_keep m c main_arg2 (by decide +kernel) (by decide +kernel) (by decide +kernel) (by decide +kernel) (by decide +kernel))
  · exact (final_keep m c main_arg3 (by decide +kernel) (by decide +kernel) (by decide +kernel) (by decide +kernel) (by decide +kernel)).trans (entry_keep m c main_arg3 (by decide +kernel) (by decide +kernel) (by decide +kernel) (by decide +kernel) (by decide +kernel))
  · exact (final_keep m c main_arg4 (by decide +kernel) (by decide +kernel) (by decide +kernel) (by decide +kernel) (by decide +kernel)).trans (entry_keep m c main_arg4 (by decide +kernel) (by decide +kernel) (by decide +kernel) (by decide +kernel) (by decide +kernel))
  · exact (final_keep m c main_arg5 (by decide +kernel) (by decide +kernel) (by decide +kernel) (by decide +kernel) (by decide +kernel)).trans (entry_keep m c main_arg5 (by decide +kernel) (by decide +kernel) (by decide +kernel) (by decide +kernel) (by decide +kernel))
  · exact (final_keep m c main_arg6 (by decide +kernel) (by decide +kernel) (by decide +kernel) (by decide +kernel) (by decide +kernel)).trans (entry_keep m c main_arg6 (by decide +kernel) (by decide +kernel) (by decide +kernel) (by decide +kernel) (by decide +kernel))
  · exact (final_keep m c main_arg7 (by decide +kernel) (by decide +kernel) (by decide +kernel) (by decide +kernel) (by decide +kernel)).trans (entry_keep m c main_arg7 (by decide +kernel) (by decide +kernel) (by decide +kernel) (by decide +kernel) (by decide +kernel))

end Cert.Proof.R

end
-- ==== Proof.Math.Spec.lean ====
module

public import Idealize.ShloMosaic.Lib.Pointwise

@[expose] public section

noncomputable section

namespace Cert.Proof.Math

/-! The value both programs compute, over the real numbers, and the facts about it that need no program. -/

/-- One more than the last position before `t` with the speaker of `t`, or zero if there is none. -/
def conv (q : ℕ → Bool) (t : ℕ) : ℕ := Nat.findGreatest (fun n => 0 < n ∧ q (n - 1) = q t) t

/-- Whether the speaker of `t` spoke before, as zero or one. -/
def inert (q : ℕ → Bool) (t : ℕ) : ℝ := if 0 < conv q t then 1 else 0

/-- Whether somebody else spoke just before `t`, as zero or one. -/
def cont (q : ℕ → Bool) (t : ℕ) : ℝ := if conv q t ≠ t then 1 else 0

/-- `conv` is at most the position. -/
theorem conv_le (q : ℕ → Bool) (t : ℕ) : conv q t ≤ t := Nat.findGreatest_le t

/-- A nonzero `conv` points just behind a position of the same speaker. -/
theorem conv_same (q : ℕ → Bool) (t : ℕ) (h : 0 < conv q t) : q (conv q t - 1) = q t :=
  (Nat.findGreatest_of_ne_zero (P := fun n => 0 < n ∧ q (n - 1) = q t) rfl (Nat.pos_iff_ne_zero.mp h)).2

/-- Between the position `conv` points at and `t` the other speaker speaks. -/
theorem conv_between (q : ℕ → Bool) (t s : ℕ) (h1 : conv q t ≤ s) (h2 : s < t) : q s ≠ q t := fun h =>
  Nat.findGreatest_is_greatest (P := fun n => 0 < n ∧ q (n - 1) = q t) (n := t) (k := s + 1) (Nat.lt_succ_of_le h1) h2 ⟨Nat.succ_pos s, h⟩

/-- `conv` from the last position of the same speaker. -/
theorem conv_eq (q : ℕ → Bool) (t s : ℕ) (h1 : s < t) (h2 : q s = q t) (h3 : ∀ r, s < r → r < t → q r ≠ q t) : conv q t = s + 1 := by
  have h4 : s + 1 ≤ conv q t :=
    Nat.le_findGreatest (P := fun n => 0 < n ∧ q (n - 1) = q t) h1 ⟨Nat.succ_pos s, h2⟩
  by_contra hne
  have h5 : 0 < conv q t := by omega
  have h6 := conv_le q t
  exact h3 (conv q t - 1) (by omega) (by omega) (conv_same q t h5)

/-- `conv` is zero where the speaker has not spoken. -/
theorem conv_zero (q : ℕ → Bool) (t : ℕ) (h : ∀ s, s < t → q s ≠ q t) : conv q t = 0 := by
  by_contra hne
  have h5 : 0 < conv q t := by omega
  have h6 := conv_le q t
  exact h (conv q t - 1) (by omega) (conv_same q t h5)

/-- The speaker changed exactly where the one just before is another. -/
theorem conv_ne_iff (q : ℕ → Bool) (t : ℕ) : conv q (t + 1) ≠ t + 1 ↔ q (t + 1) ≠ q t := by
  constructor
  · intro h1 h2
    exact h1 (conv_eq q (t + 1) t (Nat.lt_succ_self t) h2.symm fun r _ _ => by omega)
  · intro h1 h2
    have := conv_same q (t + 1) (by omega)
    rw [h2] at this
    exact h1 this.symm

/-- At the first position both flags are zero. -/
theorem conv_first (q : ℕ → Bool) : conv q 0 = 0 := Nat.le_zero.mp (conv_le q 0)

/-- After the first position one of the two flags is set. -/
theorem inert_or_cont (q : ℕ → Bool) (t : ℕ) : 0 < conv q (t + 1) ∨ conv q (t + 1) ≠ t + 1 := by
  by_cases h : 0 < conv q (t + 1)
  · exact Or.inl h
  · exact Or.inr (by omega)

section chain

variable (em : ℕ → Fin 64 → ℝ) (q : ℕ → Bool) (st en : Fin 64 → ℝ) (sT oT : Fin 64 → Fin 64 → ℝ)

/-- The score of a step from class `i` to class `j` at position `t`. -/
def trans (t : ℕ) (i j : Fin 64) : ℝ := sT i j * inert q t + oT i j * cont q t

/-- The sum over all paths into class `j` at position `t`, the emission there left out. -/
def fwd : ℕ → Fin 64 → ℝ
  | 0, j => Real.exp (st j)
  | t + 1, j => ∑ i, fwd t i * Real.exp (em t i) * Real.exp (trans q sT oT (t + 1) i j)

/-- The sum over all paths out of class `i` at position `511 - n`. -/
def bwd : ℕ → Fin 64 → ℝ
  | 0, i => Real.exp (en i)
  | n + 1, i => ∑ j, bwd n j * Real.exp (em (511 - n) j) * Real.exp (trans q sT oT (511 - n) i j)

/-- The sum over all paths. -/
def total : ℝ := ∑ j, fwd em q st sT oT 511 j * Real.exp (em 511 j) * Real.exp (en j)

/-- Forward sums are positive. -/
theorem fwd_pos (t : ℕ) (j : Fin 64) : 0 < fwd em q st sT oT t j := by
  induction t generalizing j with
  | zero => exact Real.exp_pos _
  | succ t ih => exact Finset.sum_pos (fun i _ => mul_pos (mul_pos (ih i) (Real.exp_pos _)) (Real.exp_pos _)) ⟨0, Finset.mem_univ _⟩

/-- Backward sums are positive. -/
theorem bwd_pos (t : ℕ) (j : Fin 64) : 0 < bwd em q en sT oT t j := by
  induction t generalizing j with
  | zero => exact Real.exp_pos _
  | succ t ih => exact Finset.sum_pos (fun i _ => mul_pos (mul_pos (ih i) (Real.exp_pos _)) (Real.exp_pos _)) ⟨0, Finset.mem_univ _⟩

/-- The total is positive. -/
theorem total_pos : 0 < total em q st en sT oT :=
  Finset.sum_pos (fun i _ => mul_pos (mul_pos (fwd_pos em q st sT oT _ i) (Real.exp_pos _)) (Real.exp_pos _)) ⟨0, Finset.mem_univ _⟩

/-- Wherever the two recursions meet, the total is what they give together. -/
theorem meet (n : ℕ) (hn : n ≤ 511) :
    ∑ j, fwd em q st sT oT (511 - n) j * Real.exp (em (511 - n) j) * bwd em q en sT oT n j = total em q st en sT oT := by
  induction n with
  | zero => rfl
  | succ n ih =>
    rw [← ih (by omega)]
    obtain ⟨k, hk⟩ : ∃ k, 511 - n = k + 1 := ⟨510 - n, by omega⟩
    have hk' : 511 - (n + 1) = k := by omega
    rw [hk']
    simp only [bwd, hk, fwd, Finset.mul_sum, Finset.sum_mul]
    rw [Finset.sum_comm]
    refine Finset.sum_congr rfl fun j _ => Finset.sum_congr rfl fun i _ => ?_
    ring

/-- The logarithm of the sum over the paths into each class, the emission there included. -/
def alpha (t : ℕ) (j : Fin 64) : ℝ := Real.log (fwd em q st sT oT t j * Real.exp (em t j))

/-- The exponential of `alpha`. -/
theorem exp_alpha (t : ℕ) (j : Fin 64) : Real.exp (alpha em q st sT oT t j) = fwd em q st sT oT t j * Real.exp (em t j) :=
  Real.exp_log (mul_pos (fwd_pos em q st sT oT t j) (Real.exp_pos _))

/-- `alpha` at the first position. -/
theorem alpha_zero (j : Fin 64) : alpha em q st sT oT 0 j = st j + em 0 j := by
  rw [alpha, fwd, ← Real.exp_add, Real.log_exp]

/-- `alpha` one position on is the logarithm of a sum of exponentials. -/
theorem alpha_succ (t : ℕ) (j : Fin 64) : alpha em q st sT oT (t + 1) j
    = Real.log (∑ i, Real.exp (alpha em q st sT oT t i + trans q sT oT (t + 1) i j + em (t + 1) j)) := by
  rw [alpha]
  congr 1
  simp only [Real.exp_add, exp_alpha]
  rw [← Finset.sum_mul]
  rfl

/-- The logarithm of the total from `alpha` at the last position. -/
theorem log_total : Real.log (total em q st en sT oT) = Real.log (∑ j, Real.exp (alpha em q st sT oT 511 j + en j)) := by
  congr 1
  simp only [Real.exp_add, exp_alpha]
  rfl

/-- The score of a path of tags. -/
def score (tg : ℕ → Fin 64) : ℝ :=
  st (tg 0) + em 0 (tg 0)
    + ∑ t ∈ Finset.range 511, (sT (tg (conv q (t + 1) - 1)) (tg (t + 1)) * inert q (t + 1)
        + oT (tg t) (tg (t + 1)) * cont q (t + 1) + em (t + 1) (tg (t + 1)))
    + en (tg 511)

end chain

/-- The weights of the three kinds of step together carry the step's exponential score. -/
theorem weights (q : ℕ → Bool) (t : ℕ) (a b x : ℝ) :
    inert q (t + 1) * (1 - cont q (t + 1)) * x * Real.exp a + cont q (t + 1) * (1 - inert q (t + 1)) * x * Real.exp b
      + inert q (t + 1) * cont q (t + 1) * x * Real.exp (a + b)
    = x * Real.exp (a * inert q (t + 1) + b * cont q (t + 1)) := by
  have := inert_or_cont q t
  unfold inert cont
  by_cases h1 : 0 < conv q (t + 1) <;> by_cases h2 : conv q (t + 1) ≠ t + 1
  · simp [h1, h2]
  · simp [h1, h2]
  · simp [h1, h2]
  · exact absurd this (by tauto)

/-- The log-likelihood: over the batch, the score of the tags less the logarithm of the total. -/
def value (em : ℕ → Fin 16 → Fin 64 → ℝ) (tg : ℕ → Fin 16 → Fin 64) (q : ℕ → Fin 16 → Bool) (st en : Fin 64 → ℝ)
    (sT oT : Fin 64 → Fin 64 → ℝ) : ℝ :=
  ∑ b, (score (fun t => em t b) (fun t => q t b) st en sT oT (fun t => tg t b)
    - Real.log (total (fun t => em t b) (fun t => q t b) st en sT oT))

end Cert.Proof.Math

end
-- ==== Proof.KI.Step.lean ====
module

public import proofs.«01_k».proof.Proof.KI.Value
public import proofs.«01_k».proof.Proof.Math.Spec
public import Idealize.ShloMosaic.Lib.Pointwise

@[expose] public section

set_option maxRecDepth 16384

noncomputable section

namespace Cert.Proof.KI

open Cert.KernelIdeal Cert.KernelIdeal.Gen
open Idealize.ShloMosaic Idealize.ShloMosaic.TcCoe

open Idealize.SL.Sem
open Cert.Proof

/-! One step of either recursion, and the rescaling, read over the real numbers. -/

/-- The class of a column of a three-fold row. -/
def col (c : Fin 192) : Fin 64 := ⟨c.val % 64, Nat.mod_lt _ (by decide)⟩
/-- The block of a column of a three-fold row. -/
def blk (c : Fin 192) : Fin 3 := ⟨c.val / 64, by omega⟩

/-- A state holds real numbers, the same in all three blocks. -/
def Holds (s : FVec Ideal S16x192 .f32) (S : Fin 16 → Fin 64 → ℝ) : Prop := ∀ b c, s (ix2 b c) = ((S b (col c) : ℝ) : EReal)

/-- A sum of real numbers, as extended reals. -/
theorem coe_sum {n : ℕ} (f : Fin n → ℝ) : ∑ k, ((f k : ℝ) : EReal) = ((∑ k, f k : ℝ) : EReal) :=
  (map_sum (⟨⟨((↑) : ℝ → EReal), EReal.coe_zero⟩, EReal.coe_add⟩ : ℝ →+ EReal) f Finset.univ).symm

/-- A sum over the columns of a three-fold row is a sum over the blocks and the classes. -/
theorem sum_cols (f : Fin 3 → Fin 64 → ℝ) : ∑ k : Fin 192, f (blk k) (col k) = ∑ i, (f 0 i + f 1 i + f 2 i) := by
  rw [show (∑ k : Fin 192, f (blk k) (col k)) = ∑ g : Fin 3, ∑ i : Fin 64, f g i from ?_, Fin.sum_univ_three,
    ← Finset.sum_add_distrib, ← Finset.sum_add_distrib]
  rw [Fin.sum_univ_tiles 3 64 rfl (fun k : Fin 192 => f (blk k) (col k))]
  refine Finset.sum_congr rfl fun g _ => Finset.sum_congr rfl fun i _ => ?_
  have h1 : blk ⟨g.val * 64 + i.val, by omega⟩ = g := Fin.ext (by show (g.val * 64 + i.val) / 64 = g.val; omega)
  have h2 : col ⟨g.val * 64 + i.val, by omega⟩ = i := Fin.ext (by show (g.val * 64 + i.val) % 64 = i.val; omega)
  exact congrArg₂ f h1 h2

/-- One step read at an entry. -/
theorem stepM_apply (E : FVec Ideal S192x192 .bf16) (s : FVec Ideal S16x192 .f32) (w : Vec Ideal S1x16x192 .bf16) (b : Fin 16) (c : Fin 192) :
    stepM E s w (ix2 b c) = ∑ k : Fin 192, (s (ix2 b k) * w (ix3 0 b k)) * E (ix2 k c) := by
  pointwise [stepM]
  try simp

/-- One step over the real numbers. -/
theorem stepM_holds (E : FVec Ideal S192x192 .bf16) (s : FVec Ideal S16x192 .f32) (w : Vec Ideal S1x16x192 .bf16)
    (S : Fin 16 → Fin 64 → ℝ) (W : Fin 16 → Fin 3 → Fin 64 → ℝ) (e : Fin 3 → Fin 64 → Fin 64 → ℝ)
    (hs : Holds s S) (hw : ∀ b k, w (ix3 0 b k) = ((W b (blk k) (col k) : ℝ) : EReal))
    (hE : ∀ k c, E (ix2 k c) = ((e (blk k) (col k) (col c) : ℝ) : EReal)) :
    Holds (stepM E s w) fun b j => ∑ i, S b i * (W b 0 i * e 0 i j + W b 1 i * e 1 i j + W b 2 i * e 2 i j) := by
  intro b c
  rw [stepM_apply]
  have h1 : ∀ k : Fin 192, (s (ix2 b k) * w (ix3 0 b k)) * E (ix2 k c)
      = ((S b (col k) * W b (blk k) (col k) * e (blk k) (col k) (col c) : ℝ) : EReal) := fun k => by
    rw [hs, hw, hE, ← EReal.coe_mul, ← EReal.coe_mul]
  rw [Finset.sum_congr rfl fun k _ => h1 k, coe_sum,
    sum_cols (fun g i => S b i * W b g i * e g i (col c))]
  refine congrArg _ (Finset.sum_congr rfl fun i _ => ?_)
  ring

/-- The word of minus infinity. -/
theorem ofBits_neg_inf : Ideal.ofBits .f32 0xFF800000#32 = (⊥ : EReal) := by
  simp [Ideal.ofBits, Ideal.ieee]

/-- A maximum over a nonempty range, from minus infinity, is one of its members. -/
theorem fold_max_mem {n : ℕ} (f : Fin (n + 1) → EReal) : ∃ k, Finset.univ.fold max (⊥ : EReal) f = f k := by
  have h : Finset.univ.fold max (⊥ : EReal) f = Finset.univ.sup f := by
    rw [Finset.sup_def, Finset.fold, Multiset.sup]
  obtain ⟨k, _, hk⟩ := Finset.exists_mem_eq_sup Finset.univ ⟨0, Finset.mem_univ _⟩ f
  exact ⟨k, h.trans hk⟩

/-- The greatest entry of a positive row is a positive real. -/
theorem rmax_holds (s : FVec Ideal S16x192 .f32) (S : Fin 16 → Fin 64 → ℝ) (hs : Holds s S) (hpos : ∀ b i, 0 < S b i) :
    ∃ m : Fin 16 → ℝ, (∀ b, 0 < m b) ∧ ∀ b, rmax s (ix2 b 0) = ((m b : ℝ) : EReal) := by
  have h1 : ∀ b : Fin 16, ∃ x : ℝ, 0 < x ∧ rmax s (ix2 b 0) = (x : EReal) := fun b => by
    have h2 : rmax s (ix2 b 0) = Finset.univ.fold max (⊥ : EReal) fun k : Fin 192 => s (ix2 b k) := by
      pointwise [rmax]
      rw [ofBits_neg_inf]
    rw [h2]
    obtain ⟨k, hk⟩ := fold_max_mem (n := 191) fun k : Fin 192 => s (ix2 b k)
    exact ⟨S b (col k), hpos b _, by rw [hk, hs]⟩
  choose m hm using h1
  exact ⟨m, fun b => (hm b).1, fun b => (hm b).2⟩

/-- A state divided by its rows' greatest entries. -/
theorem rnorm_holds (s : FVec Ideal S16x192 .f32) (S : Fin 16 → Fin 64 → ℝ) (hs : Holds s S) (m : Fin 16 → ℝ) (hm : ∀ b, 0 < m b)
    (hr : ∀ b, rmax s (ix2 b 0) = ((m b : ℝ) : EReal)) : Holds (rnorm s) fun b i => S b i / m b := by
  intro b c
  have h1 : rnorm s (ix2 b c) = Ideal.div (s (ix2 b c)) (rmax s (ix2 b 0)) := by
    pointwise [rnorm]
  rw [h1, hr, hs, Ideal.div_coe (hm b).ne', ← EReal.coe_mul, mul_one_div]

end Cert.Proof.KI

end
-- ==== Proof.KI.Scan.lean ====
module

public import proofs.«01_k».proof.Proof.KI.Step

@[expose] public section

set_option maxRecDepth 16384

noncomputable section

namespace Cert.Proof.KI

open Cert.KernelIdeal Cert.KernelIdeal.Gen
open Idealize.ShloMosaic Idealize.ShloMosaic.TcCoe
open Idealize.SL.Sem
open Cert.Proof

/-! The doubling scan: after the step of shift `2^k` a position knows the last valid value among the `2^(k+1)` positions
that end at it. -/

/-- An array moved down, read at an entry. -/
theorem shiftDown_apply (n k : ℕ) (hs : S512x16.Slices ![0, 0] ⟨2, ![k, 16]⟩) (hc : Shape.Concatenates [⟨2, ![n, 16]⟩, ⟨2, ![k, 16]⟩] S512x16 0)
    (hk : n + k = 512) (x : IVec S512x16 32) (t : Fin 512) (b : Fin 16) :
    shiftDown n k hs hc x (ix2 t b) = if h : n ≤ t.val then x (ix2 ⟨t.val - n, by omega⟩ b) else 0#32 := by
  pointwise [shiftDown]
  by_cases h : t.val < n
  · rw [dif_pos h, dif_neg (by omega)]
  · rw [dif_neg h, dif_pos (by omega)]
    rfl

/-- Among the positions in reach there is a last valid one, or none is valid. -/
theorem last_or_none (f : IVec S512x16 32) (hf : ∀ t b, f (ix2 t b) = 0#32 ∨ f (ix2 t b) = 1#32) (b : Fin 16) (t : Fin 512) (w : ℕ) :
    (∀ r : Fin 512, r ≤ t → t.val < r.val + w → f (ix2 r b) = 0#32)
    ∨ ∃ s : Fin 512, s ≤ t ∧ t.val < s.val + w ∧ f (ix2 s b) = 1#32 ∧ ∀ r : Fin 512, s < r → r ≤ t → f (ix2 r b) = 0#32 := by
  induction w with
  | zero => exact Or.inl fun r h1 h2 => absurd (Fin.le_def.mp h1) (by omega)
  | succ w ih =>
    rcases ih with ih | ⟨s, h1, h2, h3, h4⟩
    · by_cases hw : w ≤ t.val
      · rcases hf ⟨t.val - w, by omega⟩ b with h0 | h0
        · left
          intro r h1 h2
          by_cases h3 : t.val < r.val + w
          · exact ih r h1 h3
          · have h5 : r = ⟨t.val - w, by omega⟩ := Fin.ext (by show r.val = t.val - w; have := Fin.le_def.mp h1; omega)
            rw [h5]; exact h0
        · right
          refine ⟨⟨t.val - w, by omega⟩, Fin.le_def.mpr (by show t.val - w ≤ t.val; omega), by show t.val < t.val - w + (w + 1); omega, h0, fun r h1 h2 => ih r h2 ?_⟩
          have := Fin.lt_def.mp h1
          dsimp only at this
          omega
      · left
        intro r h1 h2
        exact ih r h1 (by omega)
    · exact Or.inr ⟨s, h1, by omega, h3, h4⟩

/-- The scan's invariant: `w` positions, ending at the one asked, have been looked at. -/
structure Scanned (v f : IVec S512x16 32) (F V : IVec S512x16 32) (w : ℕ) : Prop where
  /-- A valid position in reach, with none after it, gives its value. -/
  some : ∀ (t s : Fin 512) (b : Fin 16), s ≤ t → t.val < s.val + w → f (ix2 s b) = 1#32 →
    (∀ r : Fin 512, s < r → r ≤ t → f (ix2 r b) = 0#32) → F (ix2 t b) = 1#32 ∧ V (ix2 t b) = v (ix2 s b)
  /-- No valid position in reach leaves the flag clear. -/
  none : ∀ (t : Fin 512) (b : Fin 16), (∀ r : Fin 512, r ≤ t → t.val < r.val + w → f (ix2 r b) = 0#32) → F (ix2 t b) = 0#32

/-- Before the first step a position knows itself. -/
theorem Scanned.start (v f : IVec S512x16 32) : Scanned v f f v 1 where
  some t s b h1 h2 h3 h4 := by
    obtain rfl : s = t := Fin.ext (by have := Fin.le_def.mp h1; omega)
    exact ⟨h3, rfl⟩
  none t b h := h t le_rfl (by omega)

/-- A step doubles the reach. -/
theorem Scanned.next {v f F V : IVec S512x16 32} (hf : ∀ t b, f (ix2 t b) = 0#32 ∨ f (ix2 t b) = 1#32) (n k : ℕ)
    (hs : S512x16.Slices ![0, 0] ⟨2, ![k, 16]⟩) (hc : Shape.Concatenates [⟨2, ![n, 16]⟩, ⟨2, ![k, 16]⟩] S512x16 0)
    (hk : n + k = 512) (h : Scanned v f F V n) : Scanned v f (flagStep n k hs hc F) (valStep n k hs hc V F) (n + n) := by
  have e1 : ∀ t b, flagStep n k hs hc F (ix2 t b) = IntOp.maxsi (F (ix2 t b)) (shiftDown n k hs hc F (ix2 t b)) := fun t b => rfl
  have e2 : ∀ t b, valStep n k hs hc V F (ix2 t b) = if F (ix2 t b) = 1#32 then V (ix2 t b) else shiftDown n k hs hc V (ix2 t b) := fun t b => by
    show Scalar.select (IntOp.cmpi .eq (F (ix2 t b)) 1#32) _ _ = _
    by_cases h : F (ix2 t b) = 1#32
    · rw [if_pos h, h]; rfl
    · rw [if_neg h]
      have : IntOp.cmpi .eq (F (ix2 t b)) 1#32 = 0#1 := by
        show BitVec.ofBool (F (ix2 t b) == 1#32) = 0#1
        rw [beq_eq_false_iff_ne.mpr h]; rfl
      rw [this]; rfl
  have e3 : ∀ (t : Fin 512) (b : Fin 16), F (ix2 t b) = 0#32 ∨ F (ix2 t b) = 1#32 := fun t b => by
    rcases last_or_none f hf b t n with h0 | ⟨s, h1, h2, h3, h4⟩
    · exact Or.inl (h.none t b h0)
    · exact Or.inr (h.some t s b h1 h2 h3 h4).1
  have e4 : ∀ (t : Fin 512) (b : Fin 16), shiftDown n k hs hc F (ix2 t b) = 0#32 ∨ shiftDown n k hs hc F (ix2 t b) = 1#32 := fun t b => by
    rw [shiftDown_apply n k hs hc hk]
    by_cases h0 : n ≤ t.val
    · rw [dif_pos h0]; exact e3 _ b
    · rw [dif_neg h0]; exact Or.inl rfl
  refine ⟨fun t s b h1 h2 h3 h4 => ?_, fun t b h0 => ?_⟩
  · rw [e1, e2]
    by_cases h5 : t.val < s.val + n
    · obtain ⟨h6, h7⟩ := h.some t s b h1 h5 h3 h4
      rw [if_pos h6, h6]
      refine ⟨?_, h7⟩
      rcases e4 t b with h8 | h8 <;> rw [h8] <;> rfl
    · have h6 : F (ix2 t b) = 0#32 := h.none t b fun r h7 h8 => h4 r (Fin.lt_def.mpr (by omega)) h7
      have h9 : n ≤ t.val := by omega
      obtain ⟨h10, h11⟩ := h.some ⟨t.val - n, by omega⟩ s b (Fin.le_def.mpr (by show s.val ≤ t.val - n; omega))
        (by show t.val - n < s.val + n; omega) h3
        fun r h7 h8 => h4 r h7 (Fin.le_def.mpr (by have := Fin.le_def.mp h8; dsimp only at this; omega))
      rw [h6, if_neg (by decide), shiftDown_apply n k hs hc hk, shiftDown_apply n k hs hc hk, dif_pos h9, dif_pos h9, h10, h11]
      exact ⟨rfl, rfl⟩
  · have h6 : F (ix2 t b) = 0#32 := h.none t b fun r h7 h8 => h0 r h7 (by omega)
    rw [e1, h6, shiftDown_apply n k hs hc hk]
    by_cases h9 : n ≤ t.val
    · rw [dif_pos h9, h.none ⟨t.val - n, by omega⟩ b fun r h7 h8 => h0 r (Fin.le_def.mpr (by have := Fin.le_def.mp h7; dsimp only at this; omega)) (by dsimp only at h8; omega)]
      rfl
    · rw [dif_neg h9]; rfl

/-- After all nine steps a position knows everything up to itself. -/
theorem scanned (v f : IVec S512x16 32) (hf : ∀ t b, f (ix2 t b) = 0#32 ∨ f (ix2 t b) = 1#32) :
    Scanned v f (flag_8 f) (val_8 v f) 256 ∧ Scanned v f (flag_9 f) (val_9 v f) 512 := by
  have h8 : Scanned v f (flag_8 f) (val_8 v f) 256 :=
    .next hf 128 384 _ _ rfl (.next hf 64 448 _ _ rfl (.next hf 32 480 _ _ rfl (.next hf 16 496 _ _ rfl (.next hf 8 504 _ _ rfl
      (.next hf 4 508 _ _ rfl (.next hf 2 510 _ _ rfl (.next hf 1 511 _ _ rfl (.start v f))))))))
  exact ⟨h8, h8.next hf 256 256 _ _ rfl⟩

end Cert.Proof.KI

end
-- ==== Proof.KI.Flags.lean ====
module

public import proofs.«01_k».proof.Proof.KI.Scan

@[expose] public section

set_option maxRecDepth 16384

noncomputable section

namespace Cert.Proof.KI

open Cert.KernelIdeal Cert.KernelIdeal.Gen
open Idealize.ShloMosaic Idealize.ShloMosaic.TcCoe
open Idealize.SL.Sem
open Cert.Proof

/-! The kernel's flags and previous tags, read at an entry. -/

/-- The speakers as booleans. -/
def Speaks (q : IVec S512x16 32) (Q : ℕ → Fin 16 → Bool) : Prop := ∀ (t : Fin 512) (b : Fin 16), q (ix2 t b) = if Q t.val b then 1#32 else 0#32

/-- The choice between two arrays, each moved down by one position, by the speaker. -/
def pick (q A B : IVec S512x16 32) : IVec S512x16x64 32 :=
  select (k0_pay49 (F := Ideal) q)
    (concatenate S512x16x64 0 [⟨S1x16x64, broadcast S1x16x64 0#32⟩, ⟨S511x16x64, extractStridedSlice S511x16x64 ![0, 0, 0]
      (broadcastTo S512x16x64 (shapeCast S512x16x1 (shapeCast S512x16x1 A shapeCasts_S512x16_S512x16x1) shapeCasts_S512x16x1_S512x16x1) broadcasts_S512x16x1_S512x16x64)
      slices_S512x16x64_o0_0_0_S511x16x64⟩] concatenates_S1x16x64_S511x16x64_S512x16x64_d0)
    (concatenate S512x16x64 0 [⟨S1x16x64, broadcast S1x16x64 0#32⟩, ⟨S511x16x64, extractStridedSlice S511x16x64 ![0, 0, 0]
      (broadcastTo S512x16x64 (shapeCast S512x16x1 (shapeCast S512x16x1 B shapeCasts_S512x16_S512x16x1) shapeCasts_S512x16x1_S512x16x1) broadcasts_S512x16x1_S512x16x64)
      slices_S512x16x64_o0_0_0_S511x16x64⟩] concatenates_S1x16x64_S511x16x64_S512x16x64_d0)

/-- The previous tag is such a choice. -/
theorem prevSame_pick (tg q : IVec S512x16 32) : prevSame (F := Ideal) tg q = pick q (val_9 tg (flag0 q)) (val_9 tg (flag1 q)) := rfl

/-- The choice read at an entry. -/
theorem pick_apply (q A B : IVec S512x16 32) (t : Fin 512) (b : Fin 16) (k : Fin 64) (h : 0 < t.val) :
    pick q A B (ix3 t b k) = if q (ix2 t b) = 0#32 then A (ix2 ⟨t.val - 1, by omega⟩ b) else B (ix2 ⟨t.val - 1, by omega⟩ b) := by
  pointwise [pick, k0_pay49, k0_pay48]
  rw [dif_neg (by omega), dif_neg (by omega)]
  by_cases h : q (ix2 t b) = 0#32
  · rw [if_pos h, h]; rfl
  · rw [if_neg h]
    have : IntOp.cmpi .eq (q (ix2 t b)) 0#32 = 0#1 := by
      show BitVec.ofBool (q (ix2 t b) == 0#32) = 0#1
      rw [beq_eq_false_iff_ne.mpr h]; rfl
    rw [this]; rfl

/-- The first flag. -/
theorem flag0_apply {q : IVec S512x16 32} {Q : ℕ → Fin 16 → Bool} (hq : Speaks q Q) (t : Fin 512) (b : Fin 16) :
    flag0 q (ix2 t b) = if Q t.val b then 0#32 else 1#32 := by
  have h1 : flag0 q (ix2 t b) = Scalar.select (IntOp.cmpi .eq (q (ix2 t b)) 0#32) 1#32 0#32 := rfl
  rw [h1, hq]
  cases Q t.val b <;> rfl

/-- The second flag. -/
theorem flag1_apply {q : IVec S512x16 32} {Q : ℕ → Fin 16 → Bool} (hq : Speaks q Q) (t : Fin 512) (b : Fin 16) :
    flag1 q (ix2 t b) = if Q t.val b then 1#32 else 0#32 := by
  have h1 : flag1 q (ix2 t b) = 1#32 - flag0 q (ix2 t b) := rfl
  rw [h1, flag0_apply hq]
  cases Q t.val b <;> rfl

/-- The flags of the speaker `v`. -/
def flagOf (q : IVec S512x16 32) (v : Bool) : IVec S512x16 32 := if v then flag1 q else flag0 q

theorem flagOf_apply {q : IVec S512x16 32} {Q : ℕ → Fin 16 → Bool} (hq : Speaks q Q) (v : Bool) (t : Fin 512) (b : Fin 16) :
    flagOf q v (ix2 t b) = if Q t.val b = v then 1#32 else 0#32 := by
  cases v
  · show flag0 q _ = _
    rw [flag0_apply hq]; cases Q t.val b <;> rfl
  · show flag1 q _ = _
    rw [flag1_apply hq]

theorem flagOf_false (q : IVec S512x16 32) : flagOf q false = flag0 q := rfl
theorem flagOf_true (q : IVec S512x16 32) : flagOf q true = flag1 q := rfl

/-- One, read as a real number. -/
theorem sitofp_one : FloatOps.sitofp (F := Ideal) FTy.f32 1#32 = (1 : EReal) := by
  show (((1#32).toInt : ℝ) : EReal) = 1
  simp

/-- Zero, read as a real number. -/
theorem sitofp_zero : FloatOps.sitofp (F := Ideal) FTy.f32 0#32 = (0 : EReal) := by
  show (((0#32).toInt : ℝ) : EReal) = 0
  simp

/-- What the scan over a speaker's flags knows just before a position of that speaker. -/
theorem scan_conv {q : IVec S512x16 32} {Q : ℕ → Fin 16 → Bool} (hq : Speaks q Q) (tg : IVec S512x16 32) (t : Fin 512) (b : Fin 16) (h : 0 < t.val) :
    (∀ hc : 0 < Math.conv (fun t => Q t b) t.val,
      flag_9 (flagOf q (Q t.val b)) (ix2 ⟨t.val - 1, by omega⟩ b) = 1#32
      ∧ val_9 tg (flagOf q (Q t.val b)) (ix2 ⟨t.val - 1, by omega⟩ b)
        = tg (ix2 ⟨Math.conv (fun t => Q t b) t.val - 1, by have := Math.conv_le (fun t => Q t b) t.val; omega⟩ b))
    ∧ (Math.conv (fun t => Q t b) t.val = 0 → flag_9 (flagOf q (Q t.val b)) (ix2 ⟨t.val - 1, by omega⟩ b) = 0#32) := by
  have hf : ∀ r b', flagOf q (Q t.val b) (ix2 r b') = 0#32 ∨ flagOf q (Q t.val b) (ix2 r b') = 1#32 := fun r b' => by
    rw [flagOf_apply hq]
    by_cases h : Q r.val b' = Q t.val b
    · rw [if_pos h]; exact Or.inr rfl
    · rw [if_neg h]; exact Or.inl rfl
  have hle := Math.conv_le (fun t => Q t b) t.val
  have hS := (scanned tg _ hf).2
  refine ⟨fun hc => ?_, fun h0 => ?_⟩
  · refine hS.some ⟨t.val - 1, by omega⟩ ⟨Math.conv (fun t => Q t b) t.val - 1, by omega⟩ b
      (Fin.le_def.mpr (by dsimp only; omega)) (by dsimp only; omega) ?_ fun r h1 h2 => ?_
    · rw [flagOf_apply hq, if_pos (Math.conv_same (fun t => Q t b) t.val hc)]
    · rw [flagOf_apply hq, if_neg]
      have h3 := Fin.lt_def.mp h1
      have h4 := Fin.le_def.mp h2
      dsimp only at h3 h4
      exact Math.conv_between (fun t => Q t b) t.val r.val (by omega) (by omega)
  · refine hS.none _ b fun r h1 h2 => ?_
    rw [flagOf_apply hq, if_neg]
    have h4 := Fin.le_def.mp h1
    dsimp only at h4
    exact Math.conv_between (fun t => Q t b) t.val r.val (by omega) (by omega)

/-- Where the speaker spoke before, the previous tag is the one at that position. -/
theorem prevSame_apply {q : IVec S512x16 32} {Q : ℕ → Fin 16 → Bool} (hq : Speaks q Q) (tg : IVec S512x16 32) (t : Fin 512) (b : Fin 16) (k : Fin 64)
    (hc : 0 < Math.conv (fun t => Q t b) t.val) :
    prevSame (F := Ideal) tg q (ix3 t b k)
      = tg (ix2 ⟨Math.conv (fun t => Q t b) t.val - 1, by have := Math.conv_le (fun t => Q t b) t.val; omega⟩ b) := by
  have h : 0 < t.val := lt_of_lt_of_le hc (Math.conv_le _ _)
  rw [prevSame_pick, pick_apply _ _ _ _ _ _ h, ← ((scan_conv hq tg t b h).1 hc).2, hq]
  cases Q t.val b
  · rw [if_neg Bool.false_ne_true, if_pos rfl, flagOf_false]
  · rw [if_pos rfl, if_neg (by decide), flagOf_true]

/-- The last step of the scan on the flags, read at an entry. -/
theorem flag_9_apply (f : IVec S512x16 32) (t : Fin 512) (b : Fin 16) :
    flag_9 f (ix2 t b) = IntOp.maxsi (flag_8 f (ix2 t b)) (if h : t.val < 256 then 0#32 else flag_8 f (ix2 ⟨t.val - 256, by omega⟩ b)) := by
  have h1 : flag_9 f (ix2 t b) = IntOp.maxsi (flag_8 f (ix2 t b))
      (shiftDown 256 256 slices_S512x16_o0_0_S256x16 concatenates_S256x16_S256x16_S512x16_d0 (flag_8 f) (ix2 t b)) := rfl
  rw [h1, shiftDown_apply 256 256 _ _ rfl]
  by_cases h : t.val < 256
  · rw [dif_pos h, dif_neg (by omega)]
  · rw [dif_neg h, dif_pos (by omega)]

/-- The first flag of the program, over the real numbers. -/
theorem inertF_apply {q : IVec S512x16 32} {Q : ℕ → Fin 16 → Bool} (hq : Speaks q Q) (t : Fin 512) (b : Fin 16) (k : Fin 64) :
    inertF (F := Ideal) q (ix3 t b k) = ((Math.inert (fun t => Q t b) t.val : ℝ) : EReal) := by
  pointwise [inertF, k0_pay51, k0_pay49, k0_pay48]
  by_cases h : t.val < 1
  · rw [dif_pos h, dif_pos h]
    have h0 : t.val = 0 := by omega
    have h1 : Math.inert (fun t => Q t b) t.val = 0 := by rw [h0, Math.inert, Math.conv_first]; simp
    rw [h1]
    cases IntOp.cmpi .eq (q (ix2 t b)) 0#32 <;> simp [Scalar.select]
  · rw [dif_neg h, dif_neg h, ← flag_9_apply (flag1 q) ⟨t.val - 1, by omega⟩ b]
    have h2 : Scalar.select (IntOp.cmpi .eq (q (ix2 t b)) 0#32) (FloatOps.sitofp (F := Ideal) FTy.f32 (flag_9 (flag0 q) (ix2 ⟨t.val - 1, by omega⟩ b)))
        (FloatOps.sitofp FTy.f32 (flag_9 (flag1 q) (ix2 ⟨t.val - 1, by omega⟩ b)))
        = FloatOps.sitofp FTy.f32 (flag_9 (flagOf q (Q t.val b)) (ix2 ⟨t.val - 1, by omega⟩ b)) := by
      rw [hq]; unfold flagOf
      cases Q t.val b <;> rfl
    refine h2.trans ?_
    have h3 := scan_conv hq q t b (by omega)
    by_cases hc : 0 < Math.conv (fun t => Q t b) t.val
    · rw [(h3.1 hc).1, Math.inert, if_pos hc, sitofp_one]
      simp
    · rw [h3.2 (by omega), Math.inert, if_neg hc, sitofp_zero]
      simp

/-- The second flag of the program, over the real numbers. -/
theorem contF_apply {q : IVec S512x16 32} {Q : ℕ → Fin 16 → Bool} (hq : Speaks q Q) (t : Fin 512) (b : Fin 16) (k : Fin 64) :
    contF (F := Ideal) q (ix3 t b k) = ((Math.cont (fun t => Q t b) t.val : ℝ) : EReal) := by
  pointwise [contF, k0_pay52, k0_pay49, k0_pay48, k0_pay53, k0_pay54, k0_pay55]
  by_cases h : t.val < 1
  · rw [dif_pos h]
    have h0 : t.val = 0 := by omega
    have h1 : Math.cont (fun t => Q t b) t.val = 0 := by rw [h0, Math.cont, Math.conv_first]; simp
    have h2 : IntOp.cmpi .ne (q (ix2 t b)) (q (ix2 t b)) = 0#1 := by
      show BitVec.ofBool (q (ix2 t b) != q (ix2 t b)) = 0#1
      simp
    rw [h1, h2]
    simp [Scalar.select]
  · rw [dif_neg h, hq t b]
    obtain ⟨n, hn⟩ : ∃ n, t.val = n + 1 := ⟨t.val - 1, by omega⟩
    have h2 : t.val - 1 = n := by omega
    have h3 : Math.cont (fun t => Q t b) t.val = if Q t.val b ≠ Q n b then 1 else 0 := by
      rw [Math.cont, hn]
      exact if_congr (Math.conv_ne_iff (fun t => Q t b) n) rfl rfl
    have h4 : q (ix2 ⟨t.val - 1, by omega⟩ b) = if Q n b then 1#32 else 0#32 :=
      (hq ⟨t.val - 1, by omega⟩ b).trans (congrArg (fun x => if Q x b then 1#32 else 0#32) h2)
    rw [h3, h4]
    cases Q t.val b <;> cases Q n b <;> simp [Scalar.select, IntOp.cmpi]

end Cert.Proof.KI

end
-- ==== Proof.KI.Chain.lean ====
module

public import proofs.«01_k».proof.Proof.KI.Step

@[expose] public section

set_option maxRecDepth 16384

noncomputable section

namespace Cert.Proof.KI

open Cert.KernelIdeal Cert.KernelIdeal.Gen
open Idealize.ShloMosaic Idealize.ShloMosaic.TcCoe
open Idealize.SL.Sem
open Cert.Proof

/-! The two scaled recursions, run together, hold the two path sums up to a scale that is kept beside them. -/

/-- The state holds the path sums `f n`, divided by `32` to the number of steps and by the exponential of the kept scale `L`. -/
def At (f : ℕ → Fin 16 → Fin 64 → ℝ) (s : FVec Ideal S16x192 .f32) (n : ℕ) (L : Fin 16 → ℝ) : Prop :=
  ∃ S, Holds s S ∧ ∀ b j, S b j * Real.exp (L b) * 32 ^ n = f n b j

/-- The rows `w` and the matrix `E` make `N` steps of the recursion of `f`. -/
structure Chain (E : FVec Ideal S192x192 .bf16) (w : ℕ → Vec Ideal S1x16x192 .bf16) (f : ℕ → Fin 16 → Fin 64 → ℝ) (N : ℕ)
    (W : ℕ → Fin 16 → Fin 3 → Fin 64 → ℝ) (e : Fin 3 → Fin 64 → Fin 64 → ℝ) : Prop where
  /-- The path sums are positive. -/
  pos : ∀ n b j, 0 < f n b j
  /-- The rows hold the weights. -/
  row : ∀ n, n < N → ∀ b k, w n (ix3 0 b k) = ((W n b (blk k) (col k) : ℝ) : EReal)
  /-- The matrix holds the transition factors. -/
  mat : ∀ k c, E (ix2 k c) = ((e (blk k) (col k) (col c) : ℝ) : EReal)
  /-- Weights and factors together make a step. -/
  step : ∀ n, n < N → ∀ b j, f (n + 1) b j = 32 * ∑ i, f n b i * (W n b 0 i * e 0 i j + W n b 1 i * e 1 i j + W n b 2 i * e 2 i j)

variable {E : FVec Ideal S192x192 .bf16} {w : ℕ → Vec Ideal S1x16x192 .bf16} {f : ℕ → Fin 16 → Fin 64 → ℝ} {N : ℕ}
  {W : ℕ → Fin 16 → Fin 3 → Fin 64 → ℝ} {e : Fin 3 → Fin 64 → Fin 64 → ℝ}

/-- One step. -/
theorem Chain.one (h : Chain E w f N W e) {s : FVec Ideal S16x192 .f32} {n : ℕ} {L : Fin 16 → ℝ} (hs : At f s n L) (hn : n < N) :
    At f (stepM E s (w n)) (n + 1) L := by
  obtain ⟨S, h1, h2⟩ := hs
  refine ⟨_, stepM_holds E s (w n) S (W n) e h1 (h.row n hn) h.mat, fun b j => ?_⟩
  rw [h.step n hn b j]
  simp only [← h2 b]
  rw [pow_succ, Finset.sum_mul, Finset.sum_mul, Finset.mul_sum]
  refine Finset.sum_congr rfl fun i _ => ?_
  ring

/-- Several steps. -/
theorem Chain.many (h : Chain E w f N W e) {s : FVec Ideal S16x192 .f32} {n : ℕ} {L : Fin 16 → ℝ} (hs : At f s n L)
    (w' : ℕ → Vec Ideal S1x16x192 .bf16) (k : ℕ) (hw : ∀ i, i < k → w' i = w (n + i)) (hn : n + k ≤ N) :
    At f (stepsN E w' k s) (n + k) L := by
  induction k with
  | zero => exact hs
  | succ k ih =>
    rw [stepsN, hw k (Nat.lt_succ_self k)]
    exact h.one (ih (fun i hi => hw i (by omega)) (by omega)) (by omega)

/-- Rescaling moves the greatest entry's logarithm into the kept scale. -/
theorem Chain.scaled (h : Chain E w f N W e) {s : FVec Ideal S16x192 .f32} {n : ℕ} {L : Fin 16 → ℝ} (hs : At f s n L) :
    ∃ M : Fin 16 → ℝ, At f (rnorm s) n (fun b => L b + M b) ∧ ∀ b, log (rmax s) (ix2 b 0) = ((M b : ℝ) : EReal) := by
  obtain ⟨S, h1, h2⟩ := hs
  have hpos : ∀ b i, 0 < S b i := fun b i => by
    have h3 := h2 b i ▸ h.pos n b i
    have h4 : 0 < Real.exp (L b) * 32 ^ n := by positivity
    rw [mul_assoc] at h3
    exact pos_of_mul_pos_left h3 h4.le
  obtain ⟨m, hm, hr⟩ := rmax_holds s S h1 hpos
  refine ⟨fun b => Real.log (m b), ⟨_, rnorm_holds s S h1 m hm hr, fun b j => ?_⟩, fun b => ?_⟩
  · rw [← h2 b j, Real.exp_add, Real.exp_log (hm b)]
    have := (hm b).ne'
    field_simp
  · have h3 : log (rmax s) (ix2 b 0) = Ideal.log (rmax s (ix2 b 0)) := rfl
    rw [h3, hr, Ideal.log_coe, if_neg (not_le.mpr (hm b))]

/-- The scale a carried column holds. -/
def Keeps (x : FVec Ideal S16x1 .f32) (L : Fin 16 → ℝ) : Prop := ∀ b, x (ix2 b 0) = ((L b : ℝ) : EReal)

/-- A carried column with a logarithm added. -/
theorem Keeps.add {x y : FVec Ideal S16x1 .f32} {L M : Fin 16 → ℝ} (hx : Keeps x L) (hy : Keeps y M) :
    Keeps (addf x y) fun b => L b + M b := fun b => by
  have h : addf x y (ix2 b 0) = x (ix2 b 0) + y (ix2 b 0) := rfl
  rw [h, hx, hy, EReal.coe_add]

section both

variable {Et : FVec Ideal S192x192 .bf16} {wA wB : ℕ → Vec Ideal S1x16x192 .bf16} {f g : ℕ → Fin 16 → Fin 64 → ℝ}
  {WA WB : ℕ → Fin 16 → Fin 3 → Fin 64 → ℝ} {e et : Fin 3 → Fin 64 → Fin 64 → ℝ}

/-- What the loop carries after `16 * k` steps each way. -/
def Carried (f g : ℕ → Fin 16 → Fin 64 → ℝ) (a : Carry Ideal) (n : ℕ) : Prop :=
  ∃ L M, At f a.1 n L ∧ At g a.2.1 n M ∧ Keeps a.2.2.1 L ∧ Keeps a.2.2.2 M

/-- One trip of the loop. -/
theorem trip_carried (hA : Chain E (fun n => wA (n + 1)) f 256 WA e) (hB : Chain Et (fun n => wB (511 - n)) g 255 WB et)
    (k : ℕ) (hk : k < 15) (a : Carry Ideal) (ha : Carried f g a (16 * k)) : Carried f g (tripV E Et wA wB k a) (16 * (k + 1)) := by
  obtain ⟨L, M, h1, h2, h3, h4⟩ := ha
  obtain ⟨L', h5, h6⟩ := hA.scaled (hA.many h1 (fun i => wA (16 * k + i + 1)) 16 (fun i _ => rfl) (by omega))
  obtain ⟨M', h7, h8⟩ := hB.scaled (hB.many h2 (fun i => wB (511 - (16 * k + i))) 16 (fun i _ => rfl) (by omega))
  exact ⟨_, _, h5, h7, h3.add h6, h4.add h8⟩

/-- All trips of the loop. -/
theorem loop_carried (hA : Chain E (fun n => wA (n + 1)) f 256 WA e) (hB : Chain Et (fun n => wB (511 - n)) g 255 WB et)
    (k : ℕ) (hk : k ≤ 15) (a : Carry Ideal) (ha : Carried f g a 0) : Carried f g (loopV E Et wA wB a k) (16 * k) := by
  induction k with
  | zero => exact ha
  | succ k ih => exact trip_carried hA hB k (by omega) _ (ih (by omega))

/-- The two states where they meet, both rescaled, and their kept scales. -/
theorem meet_carried (hA : Chain E (fun n => wA (n + 1)) f 256 WA e) (hB : Chain Et (fun n => wB (511 - n)) g 255 WB et)
    (a : Carry Ideal) (ha : Carried f g a 240) :
    ∃ L M, At f (rnorm (lastF E wA a.1)) 256 L ∧ At g (rnorm (lastB Et wB a.2.1)) 255 M
      ∧ Keeps (addf a.2.2.1 (log (rmax (lastF E wA a.1)))) L ∧ Keeps (addf a.2.2.2 (log (rmax (lastB Et wB a.2.1)))) M := by
  obtain ⟨L, M, h1, h2, h3, h4⟩ := ha
  obtain ⟨L', h5, h6⟩ := hA.scaled (hA.many h1 (fun i => wA (241 + i)) 16
    (fun i _ => by show wA (241 + i) = wA (240 + i + 1); congr 1; omega) (by omega))
  obtain ⟨M', h7, h8⟩ := hB.scaled (hB.many h2 (fun i => wB (271 - i)) 15
    (fun i _ => by show wB (271 - i) = wB (511 - (240 + i)); congr 1; omega) (by omega))
  exact ⟨_, _, h5, h7, h3.add h6, h4.add h8⟩

end both

end Cert.Proof.KI

end
-- ==== Proof.KI.Tables.lean ====
module

public import proofs.«01_k».proof.Proof.KI.Flags
public import proofs.«01_k».proof.Proof.KI.Chain

@[expose] public section

set_option maxRecDepth 16384

noncomputable section

namespace Cert.Proof.KI

open Cert.KernelIdeal Cert.KernelIdeal.Gen
open Idealize.ShloMosaic Idealize.ShloMosaic.TcCoe
open Idealize.SL.Sem
open Cert.Proof

/-! The tables, the transition matrices and the first states, read over the real numbers. -/

/-- The emissions as real numbers. -/
def Emits (em : FVec Ideal S512x16x64 .f32) (M : ℕ → Fin 16 → Fin 64 → ℝ) : Prop :=
  ∀ (t : Fin 512) (b : Fin 16) (k : Fin 64), em (ix3 t b k) = ((M t.val b k : ℝ) : EReal)

/-- A matrix as real numbers. -/
def Mat (x : FVec Ideal S64x64 .f32) (X : Fin 64 → Fin 64 → ℝ) : Prop := ∀ i j, x (ix2 i j) = ((X i j : ℝ) : EReal)

/-- A row as real numbers. -/
def Row (x : FVec Ideal S1x64 .f32) (X : Fin 64 → ℝ) : Prop := ∀ j, x (ix2 0 j) = ((X j : ℝ) : EReal)

/-- The weights of the three kinds of step, from the two flags. -/
def kinds (I C : ℝ) (g : Fin 3) : ℝ := if g = 0 then I * (1 - C) else if g = 1 then C * (1 - I) else I * C

/-- The transition factors of the three kinds of step. -/
def factors (X Y : Fin 64 → Fin 64 → ℝ) (g : Fin 3) (i j : Fin 64) : ℝ :=
  1 / 32 * (if g = 0 then Real.exp (X i j) else if g = 1 then Real.exp (Y i j) else Real.exp (X i j + Y i j))

/-- The word of one thirty-second. -/
theorem ofBits_scale : Ideal.ofBits .f32 0x3D000000#32 = ((1 / 32 : ℝ) : EReal) := by
  simp [Ideal.ofBits, Ideal.ieee]
  rw [← EReal.coe_mul]
  norm_num

/-- A column in the first block. -/
theorem col_first (k : Fin 192) (h : k.val < 64) : blk k = 0 ∧ (⟨k.val, h⟩ : Fin 64) = col k :=
  ⟨Fin.ext (by show k.val / 64 = 0; omega), Fin.ext (by show k.val = k.val % 64; omega)⟩
/-- A column in the second block. -/
theorem col_second (k : Fin 192) (h0 : ¬ k.val < 64) (h : k.val - 64 < 64) : blk k = 1 ∧ (⟨k.val - 64, h⟩ : Fin 64) = col k :=
  ⟨Fin.ext (by show k.val / 64 = 1; omega), Fin.ext (by show k.val - 64 = k.val % 64; omega)⟩
/-- A column in the third block. -/
theorem col_third (k : Fin 192) (h0 : ¬ k.val < 64) (h1 : ¬ k.val - 64 < 64) (h : k.val - 64 - 64 < 64) : blk k = 2 ∧ (⟨k.val - 64 - 64, h⟩ : Fin 64) = col k :=
  ⟨Fin.ext (by show k.val / 64 = 2; omega), Fin.ext (by show k.val - 64 - 64 = k.val % 64; omega)⟩

theorem ecoe_one : (1 : EReal) = ((1 : ℝ) : EReal) := rfl

/-- The forward table, read at an entry. -/
theorem tabA_read (I C em : FVec Ideal S512x16x64 .f32) (n : ℕ) (hn : n + 1 < 264) (b : Fin 16) (k : Fin 192) :
    k0_pay64 I C em (ix3 ⟨n + 1, hn⟩ b k) =
      if h : k.val < 64 then
        I (ix3 ⟨n + 1, by omega⟩ b ⟨k.val, h⟩) * (1 - C (ix3 ⟨n + 1, by omega⟩ b ⟨k.val, h⟩)) * Ideal.exp (em (ix3 ⟨n, by omega⟩ b ⟨k.val, h⟩))
      else if h : k.val - 64 < 64 then
        C (ix3 ⟨n + 1, by omega⟩ b ⟨k.val - 64, h⟩) * (1 - I (ix3 ⟨n + 1, by omega⟩ b ⟨k.val - 64, h⟩)) * Ideal.exp (em (ix3 ⟨n, by omega⟩ b ⟨k.val - 64, h⟩))
      else I (ix3 ⟨n + 1, by omega⟩ b ⟨k.val - 64 - 64, by omega⟩) * C (ix3 ⟨n + 1, by omega⟩ b ⟨k.val - 64 - 64, by omega⟩)
        * Ideal.exp (em (ix3 ⟨n, by omega⟩ b ⟨k.val - 64 - 64, by omega⟩)) := by
  pointwise [k0_pay64, k0_pay60, k0_pay61, k0_pay62, k0_pay63]
  have h1 : ¬ (n + 1 < 1) := by omega
  simp only [dif_neg h1]
  rfl

/-- The backward table, read at an entry. -/
theorem tabB_read (I C em : FVec Ideal S512x16x64 .f32) (n : ℕ) (hn : n < 256) (b : Fin 16) (k : Fin 192) :
    k0_pay65 I C em (ix3 ⟨n, hn⟩ b k) =
      if h : k.val < 64 then
        I (ix3 ⟨256 + n, by omega⟩ b ⟨k.val, h⟩) * (1 - C (ix3 ⟨256 + n, by omega⟩ b ⟨k.val, h⟩)) * Ideal.exp (em (ix3 ⟨256 + n, by omega⟩ b ⟨k.val, h⟩))
      else if h : k.val - 64 < 64 then
        C (ix3 ⟨256 + n, by omega⟩ b ⟨k.val - 64, h⟩) * (1 - I (ix3 ⟨256 + n, by omega⟩ b ⟨k.val - 64, h⟩)) * Ideal.exp (em (ix3 ⟨256 + n, by omega⟩ b ⟨k.val - 64, h⟩))
      else I (ix3 ⟨256 + n, by omega⟩ b ⟨k.val - 64 - 64, by omega⟩) * C (ix3 ⟨256 + n, by omega⟩ b ⟨k.val - 64 - 64, by omega⟩)
        * Ideal.exp (em (ix3 ⟨256 + n, by omega⟩ b ⟨k.val - 64 - 64, by omega⟩)) := by
  pointwise [k0_pay65, k0_pay60, k0_pay61, k0_pay62, k0_pay63]

/-- The forward table over the real numbers. -/
theorem tabA_apply {I C em : FVec Ideal S512x16x64 .f32} {i c : ℕ → Fin 16 → ℝ} {M : ℕ → Fin 16 → Fin 64 → ℝ}
    (hI : ∀ (t : Fin 512) b k, I (ix3 t b k) = ((i t.val b : ℝ) : EReal)) (hC : ∀ (t : Fin 512) b k, C (ix3 t b k) = ((c t.val b : ℝ) : EReal))
    (hM : Emits em M) (n : ℕ) (hn : n + 1 < 264) (b : Fin 16) (k : Fin 192) :
    k0_pay64 I C em (ix3 ⟨n + 1, hn⟩ b k) = ((kinds (i (n + 1) b) (c (n + 1) b) (blk k) * Real.exp (M (n) b (col k)) : ℝ) : EReal) := by
  rw [tabA_read]
  by_cases h2 : k.val < 64
  · rw [dif_pos h2, hI, hC, hM, Ideal.exp_coe, (col_first k h2).1, (col_first k h2).2, ecoe_one, ← EReal.coe_sub, ← EReal.coe_mul, ← EReal.coe_mul]
    rfl
  · rw [dif_neg h2]
    by_cases h3 : k.val - 64 < 64
    · rw [dif_pos h3, hI, hC, hM, Ideal.exp_coe, (col_second k h2 h3).1, (col_second k h2 h3).2, ecoe_one, ← EReal.coe_sub, ← EReal.coe_mul, ← EReal.coe_mul]
      rfl
    · have h4 : k.val - 64 - 64 < 64 := by omega
      rw [dif_neg h3, hI, hC, hM, Ideal.exp_coe, (col_third k h2 h3 h4).1, (col_third k h2 h3 h4).2, ← EReal.coe_mul, ← EReal.coe_mul]
      rfl

/-- The backward table over the real numbers. -/
theorem tabB_apply {I C em : FVec Ideal S512x16x64 .f32} {i c : ℕ → Fin 16 → ℝ} {M : ℕ → Fin 16 → Fin 64 → ℝ}
    (hI : ∀ (t : Fin 512) b k, I (ix3 t b k) = ((i t.val b : ℝ) : EReal)) (hC : ∀ (t : Fin 512) b k, C (ix3 t b k) = ((c t.val b : ℝ) : EReal))
    (hM : Emits em M) (n : ℕ) (hn : n < 256) (b : Fin 16) (k : Fin 192) :
    k0_pay65 I C em (ix3 ⟨n, hn⟩ b k) = ((kinds (i (256 + n) b) (c (256 + n) b) (blk k) * Real.exp (M (256 + n) b (col k)) : ℝ) : EReal) := by
  rw [tabB_read]
  by_cases h2 : k.val < 64
  · rw [dif_pos h2, hI, hC, hM, Ideal.exp_coe, (col_first k h2).1, (col_first k h2).2, ecoe_one, ← EReal.coe_sub, ← EReal.coe_mul, ← EReal.coe_mul]
    rfl
  · rw [dif_neg h2]
    by_cases h3 : k.val - 64 < 64
    · rw [dif_pos h3, hI, hC, hM, Ideal.exp_coe, (col_second k h2 h3).1, (col_second k h2 h3).2, ecoe_one, ← EReal.coe_sub, ← EReal.coe_mul, ← EReal.coe_mul]
      rfl
    · have h4 : k.val - 64 - 64 < 64 := by omega
      rw [dif_neg h3, hI, hC, hM, Ideal.exp_coe, (col_third k h2 h3 h4).1, (col_third k h2 h3 h4).2, ← EReal.coe_mul, ← EReal.coe_mul]
      rfl

/-- A row of a table. -/
theorem rowAt_apply {n : ℕ} (o : ℕ) (p : (⟨3, ![n, 16, 192]⟩ : Shape).Idx → Ideal .bf16) (t : ℕ) (h : t - o < n) (b : Fin 16) (k : Fin 192) :
    rowAt (F := Ideal) o p t (ix3 0 b k) = p (ix3 ⟨t - o, h⟩ b k) := by
  unfold rowAt
  rw [dif_pos h]
  rfl

/-- The forward transition matrix, read at an entry. -/
theorem matA_read (s o : Vec Ideal S64x64 .f32) (k c : Fin 192) :
    k0_pay66 s o s o (ix2 k c) = Ideal.ofBits .f32 0x3D000000#32 *
      (if h0 : k.val < 64 then
        if h : c.val < 64 then Ideal.exp (s (ix2 ⟨k.val, h0⟩ ⟨c.val, h⟩))
        else if h : c.val - 64 < 64 then Ideal.exp (s (ix2 ⟨k.val, h0⟩ ⟨c.val - 64, h⟩))
        else Ideal.exp (s (ix2 ⟨k.val, h0⟩ ⟨c.val - 64 - 64, by omega⟩))
      else if h0 : k.val - 64 < 64 then
        if h : c.val < 64 then Ideal.exp (o (ix2 ⟨k.val - 64, h0⟩ ⟨c.val, h⟩))
        else if h : c.val - 64 < 64 then Ideal.exp (o (ix2 ⟨k.val - 64, h0⟩ ⟨c.val - 64, h⟩))
        else Ideal.exp (o (ix2 ⟨k.val - 64, h0⟩ ⟨c.val - 64 - 64, by omega⟩))
      else
        if h : c.val < 64 then Ideal.exp (s (ix2 ⟨k.val - 64 - 64, by omega⟩ ⟨c.val, h⟩) + o (ix2 ⟨k.val - 64 - 64, by omega⟩ ⟨c.val, h⟩))
        else if h : c.val - 64 < 64 then Ideal.exp (s (ix2 ⟨k.val - 64 - 64, by omega⟩ ⟨c.val - 64, h⟩) + o (ix2 ⟨k.val - 64 - 64, by omega⟩ ⟨c.val - 64, h⟩))
        else Ideal.exp (s (ix2 ⟨k.val - 64 - 64, by omega⟩ ⟨c.val - 64 - 64, by omega⟩) + o (ix2 ⟨k.val - 64 - 64, by omega⟩ ⟨c.val - 64 - 64, by omega⟩))) := by
  pointwise [k0_pay66]

/-- The forward transition matrix over the real numbers. -/
theorem matA_apply {s o : Vec Ideal S64x64 .f32} {X Y : Fin 64 → Fin 64 → ℝ} (hs : Mat s X) (ho : Mat o Y) (k c : Fin 192) :
    k0_pay66 s o s o (ix2 k c) = ((factors X Y (blk k) (col k) (col c) : ℝ) : EReal) := by
  rw [matA_read, ofBits_scale]
  have three : ∀ (g : Fin 64 → EReal), (if h : c.val < 64 then g ⟨c.val, h⟩ else if h : c.val - 64 < 64 then g ⟨c.val - 64, h⟩ else g ⟨c.val - 64 - 64, by omega⟩) = g (col c) := fun g => by
    by_cases h2 : c.val < 64
    · rw [dif_pos h2, (col_first c h2).2]
    · rw [dif_neg h2]
      by_cases h3 : c.val - 64 < 64
      · rw [dif_pos h3, (col_second c h2 h3).2]
      · rw [dif_neg h3, (col_third c h2 h3 (by omega)).2]
  by_cases h2 : k.val < 64
  · rw [dif_pos h2, three (fun j => Ideal.exp (s (ix2 ⟨k.val, h2⟩ j))), hs, Ideal.exp_coe, (col_first k h2).1, (col_first k h2).2, ← EReal.coe_mul]
    rfl
  · rw [dif_neg h2]
    by_cases h3 : k.val - 64 < 64
    · rw [dif_pos h3, three (fun j => Ideal.exp (o (ix2 ⟨k.val - 64, h3⟩ j))), ho, Ideal.exp_coe, (col_second k h2 h3).1, (col_second k h2 h3).2, ← EReal.coe_mul]
      rfl
    · have h4 : k.val - 64 - 64 < 64 := by omega
      rw [dif_neg h3, three (fun j => Ideal.exp (s (ix2 ⟨k.val - 64 - 64, h4⟩ j) + o (ix2 ⟨k.val - 64 - 64, h4⟩ j))), hs, ho, ← EReal.coe_add, Ideal.exp_coe,
        (col_third k h2 h3 h4).1, (col_third k h2 h3 h4).2, ← EReal.coe_mul]
      rfl

/-- The backward transition matrix, read at an entry. -/
theorem matB_read (s o : Vec Ideal S64x64 .f32) (k c : Fin 192) :
    k0_pay67 s o s o (ix2 k c) = Ideal.ofBits .f32 0x3D000000#32 *
      (if h0 : k.val < 64 then
        if h : c.val < 64 then Ideal.exp (s (ix2 ⟨k.val, h0⟩ ⟨c.val, h⟩))
        else if h : c.val - 64 < 64 then Ideal.exp (s (ix2 ⟨k.val, h0⟩ ⟨c.val - 64, h⟩))
        else Ideal.exp (s (ix2 ⟨k.val, h0⟩ ⟨c.val - 64 - 64, by omega⟩))
      else if h0 : k.val - 64 < 64 then
        if h : c.val < 64 then Ideal.exp (o (ix2 ⟨k.val - 64, h0⟩ ⟨c.val, h⟩))
        else if h : c.val - 64 < 64 then Ideal.exp (o (ix2 ⟨k.val - 64, h0⟩ ⟨c.val - 64, h⟩))
        else Ideal.exp (o (ix2 ⟨k.val - 64, h0⟩ ⟨c.val - 64 - 64, by omega⟩))
      else
        if h : c.val < 64 then Ideal.exp (s (ix2 ⟨k.val - 64 - 64, by omega⟩ ⟨c.val, h⟩) + o (ix2 ⟨k.val - 64 - 64, by omega⟩ ⟨c.val, h⟩))
        else if h : c.val - 64 < 64 then Ideal.exp (s (ix2 ⟨k.val - 64 - 64, by omega⟩ ⟨c.val - 64, h⟩) + o (ix2 ⟨k.val - 64 - 64, by omega⟩ ⟨c.val - 64, h⟩))
        else Ideal.exp (s (ix2 ⟨k.val - 64 - 64, by omega⟩ ⟨c.val - 64 - 64, by omega⟩) + o (ix2 ⟨k.val - 64 - 64, by omega⟩ ⟨c.val - 64 - 64, by omega⟩))) := by
  pointwise [k0_pay67]

/-- The backward transition matrix over the real numbers. -/
theorem matB_apply {s o : Vec Ideal S64x64 .f32} {X Y : Fin 64 → Fin 64 → ℝ} (hs : Mat s X) (ho : Mat o Y) (k c : Fin 192) :
    k0_pay67 s o s o (ix2 k c) = ((factors X Y (blk k) (col k) (col c) : ℝ) : EReal) := by
  rw [matB_read, ofBits_scale]
  have three : ∀ (g : Fin 64 → EReal), (if h : c.val < 64 then g ⟨c.val, h⟩ else if h : c.val - 64 < 64 then g ⟨c.val - 64, h⟩ else g ⟨c.val - 64 - 64, by omega⟩) = g (col c) := fun g => by
    by_cases h2 : c.val < 64
    · rw [dif_pos h2, (col_first c h2).2]
    · rw [dif_neg h2]
      by_cases h3 : c.val - 64 < 64
      · rw [dif_pos h3, (col_second c h2 h3).2]
      · rw [dif_neg h3, (col_third c h2 h3 (by omega)).2]
  by_cases h2 : k.val < 64
  · rw [dif_pos h2, three (fun j => Ideal.exp (s (ix2 ⟨k.val, h2⟩ j))), hs, Ideal.exp_coe, (col_first k h2).1, (col_first k h2).2, ← EReal.coe_mul]
    rfl
  · rw [dif_neg h2]
    by_cases h3 : k.val - 64 < 64
    · rw [dif_pos h3, three (fun j => Ideal.exp (o (ix2 ⟨k.val - 64, h3⟩ j))), ho, Ideal.exp_coe, (col_second k h2 h3).1, (col_second k h2 h3).2, ← EReal.coe_mul]
      rfl
    · have h4 : k.val - 64 - 64 < 64 := by omega
      rw [dif_neg h3, three (fun j => Ideal.exp (s (ix2 ⟨k.val - 64 - 64, h4⟩ j) + o (ix2 ⟨k.val - 64 - 64, h4⟩ j))), hs, ho, ← EReal.coe_add, Ideal.exp_coe,
        (col_third k h2 h3 h4).1, (col_third k h2 h3 h4).2, ← EReal.coe_mul]
      rfl

/-- The first forward state over the real numbers. -/
theorem stA_holds {s : Vec Ideal S1x64 .f32} {X : Fin 64 → ℝ} (hs : Row s X) : Holds (k0_pay68 s) fun _ j => Real.exp (X j) := by
  intro b c
  have h : k0_pay68 s (ix2 b c) = if h : c.val < 64 then Ideal.exp (s (ix2 0 ⟨c.val, h⟩)) else if h : c.val - 64 < 64 then
      Ideal.exp (s (ix2 0 ⟨c.val - 64, h⟩)) else Ideal.exp (s (ix2 0 ⟨c.val - 64 - 64, by omega⟩)) := by
    pointwise [k0_pay68]
  rw [h]
  by_cases h2 : c.val < 64
  · rw [dif_pos h2, hs, Ideal.exp_coe, (col_first c h2).2]
  · rw [dif_neg h2]
    by_cases h3 : c.val - 64 < 64
    · rw [dif_pos h3, hs, Ideal.exp_coe, (col_second c h2 h3).2]
    · rw [dif_neg h3, hs, Ideal.exp_coe, (col_third c h2 h3 (by omega)).2]

/-- The first backward state over the real numbers. -/
theorem stB_holds {s : Vec Ideal S1x64 .f32} {X : Fin 64 → ℝ} (hs : Row s X) : Holds (k0_pay69 s) fun _ j => Real.exp (X j) := by
  intro b c
  have h : k0_pay69 s (ix2 b c) = if h : c.val < 64 then Ideal.exp (s (ix2 0 ⟨c.val, h⟩)) else if h : c.val - 64 < 64 then
      Ideal.exp (s (ix2 0 ⟨c.val - 64, h⟩)) else Ideal.exp (s (ix2 0 ⟨c.val - 64 - 64, by omega⟩)) := by
    pointwise [k0_pay69]
  rw [h]
  by_cases h2 : c.val < 64
  · rw [dif_pos h2, hs, Ideal.exp_coe, (col_first c h2).2]
  · rw [dif_neg h2]
    by_cases h3 : c.val - 64 < 64
    · rw [dif_pos h3, hs, Ideal.exp_coe, (col_second c h2 h3).2]
    · rw [dif_neg h3, hs, Ideal.exp_coe, (col_third c h2 h3 (by omega)).2]

end Cert.Proof.KI

end
-- ==== Proof.KI.Denom.lean ====
module

public import proofs.«01_k».proof.Proof.KI.Tables

@[expose] public section

set_option maxRecDepth 16384

noncomputable section

namespace Cert.Proof.KI

open Cert.KernelIdeal Cert.KernelIdeal.Gen
open Idealize.ShloMosaic Idealize.ShloMosaic.TcCoe
open Idealize.SL.Sem
open Cert.Proof

/-! The two recursions of the kernel are the path sums of the model. -/

section chains

variable {em : FVec Ideal S512x16x64 .f32} {q : IVec S512x16 32} {sT oT sTt oTt : Vec Ideal S64x64 .f32}
  {M : ℕ → Fin 16 → Fin 64 → ℝ} {Q : ℕ → Fin 16 → Bool} {X Y : Fin 64 → Fin 64 → ℝ}

/-- The forward recursion. -/
theorem chainA (hem : Emits em M) (hq : Speaks q Q) (hX : Mat sT X) (hY : Mat oT Y) (x : Fin 64 → ℝ) :
    Chain (k0_pay66 sT oT sT oT) (fun n => rowAt 0 (tabA q em) (n + 1))
      (fun n b j => Math.fwd (fun t => M t b) (fun t => Q t b) x X Y n j) 256
      (fun n b g i => kinds (Math.inert (fun t => Q t b) (n + 1)) (Math.cont (fun t => Q t b) (n + 1)) g * Real.exp (M n b i)) (factors X Y) where
  pos n b j := Math.fwd_pos _ _ _ _ _ n j
  row n hn b k := (rowAt_apply 0 _ (n + 1) (by omega) b k).trans (tabA_apply (i := fun t b => Math.inert (fun t => Q t b) t) (c := fun t b => Math.cont (fun t => Q t b) t) (inertF_apply hq) (contF_apply hq) hem n (by omega) b k)
  mat := matA_apply hX hY
  step n hn b j := by
    rw [Math.fwd, Finset.mul_sum]
    refine Finset.sum_congr rfl fun i _ => ?_
    rw [Math.trans, mul_assoc, ← Math.weights]
    simp only [kinds, factors, Fin.isValue, if_true, one_ne_zero, if_false, show (2 : Fin 3) ≠ 0 by decide, show (2 : Fin 3) ≠ 1 by decide]
    ring

/-- The backward recursion. -/
theorem chainB (hem : Emits em M) (hq : Speaks q Q) (hX : Mat sTt fun i j => X j i) (hY : Mat oTt fun i j => Y j i) (x : Fin 64 → ℝ) :
    Chain (k0_pay67 sTt oTt sTt oTt) (fun n => rowAt 256 (tabB q em) (511 - n))
      (fun n b j => Math.bwd (fun t => M t b) (fun t => Q t b) x X Y n j) 255
      (fun n b g i => kinds (Math.inert (fun t => Q t b) (511 - n)) (Math.cont (fun t => Q t b) (511 - n)) g * Real.exp (M (511 - n) b i))
      (factors (fun i j => X j i) fun i j => Y j i) where
  pos n b j := Math.bwd_pos _ _ _ _ _ n j
  row n hn b k := by
    have h : 256 + (511 - n - 256) = 511 - n := by omega
    refine (rowAt_apply 256 _ (511 - n) (by omega) b k).trans ((tabB_apply (i := fun t b => Math.inert (fun t => Q t b) t) (c := fun t b => Math.cont (fun t => Q t b) t) (inertF_apply hq) (contF_apply hq) hem (511 - n - 256) (by omega) b k).trans ?_)
    rw [h]
  mat := matB_apply hX hY
  step n hn b j := by
    rw [Math.bwd, Finset.mul_sum]
    refine Finset.sum_congr rfl fun i _ => ?_
    obtain ⟨k, hk⟩ : ∃ k, 511 - n = k + 1 := ⟨510 - n, by omega⟩
    rw [Math.trans, mul_assoc, hk, ← Math.weights]
    simp only [kinds, factors, Fin.isValue, if_true, one_ne_zero, if_false, show (2 : Fin 3) ≠ 0 by decide, show (2 : Fin 3) ≠ 1 by decide]
    ring

end chains

/-- The greatest entry of a row, read. -/
theorem rmax_apply (s : FVec Ideal S16x192 .f32) (b : Fin 16) :
    rmax s (ix2 b 0) = Finset.univ.fold max (Ideal.ofBits .f32 0xFF800000#32) fun k : Fin 192 => s (ix2 b k) := by
  pointwise [rmax]

/-- A rescaled entry, read. -/
theorem rnorm_apply (s : FVec Ideal S16x192 .f32) (b : Fin 16) (c : Fin 192) : rnorm s (ix2 b c) = Ideal.div (s (ix2 b c)) (rmax s (ix2 b 0)) := by
  pointwise [rnorm]

/-- The named constant of the kernel is the exact number it stands for. -/
theorem scale_named : (Named.named κ "scale_log" 0x46DD5FB7#32 : Ideal .f32) = (((40880 * (Real.log 2) : ℝ)) : EReal) := rfl

/-- The end of the kernel, read. -/
theorem finish_apply (N : Ideal .f32) (ex : FVec Ideal S512x16x64 .f32) (la lb lc : FVec Ideal S16x1 .f32) (s r : FVec Ideal S16x192 .f32) :
    k0_pay1 N ex la lb r s lc (ix2 0 0) = N - (((∑ b : Fin 16, addf la lc (ix2 b 0)) + ∑ b : Fin 16, addf lb (log (rmax r)) (ix2 b 0))
      + (∑ b : Fin 16, Ideal.log (∑ j : Fin 64, s (ix2 b ⟨j.val, by omega⟩) * ex (ix3 256 b j) * rnorm r (ix2 b ⟨j.val, by omega⟩)))
      + (((40880 * (Real.log 2) : ℝ)) : EReal)) := by
  have h1 : ∀ b : Fin 16, addf lb (log (rmax r)) (ix2 b 0) = lb (ix2 b 0) + Ideal.log (rmax r (ix2 b 0)) := fun b => rfl
  have h2 : ∀ b : Fin 16, addf la lc (ix2 b 0) = la (ix2 b 0) + lc (ix2 b 0) := fun b => rfl
  simp only [h1, h2, rnorm_apply, rmax_apply, ← scale_named]
  pointwise [k0_pay1]
  simp only [Fin.sum_univ_one]

/-- The end of the kernel over the real numbers: the score less the sum over the batch of the logarithm of the total. -/
theorem finish_value {N : Ideal .f32} {n : ℝ} (hN : N = (n : EReal)) {em : FVec Ideal S512x16x64 .f32} {M : ℕ → Fin 16 → Fin 64 → ℝ} (hem : Emits em M)
    {Q : ℕ → Fin 16 → Bool} {x y : Fin 64 → ℝ} {X Y : Fin 64 → Fin 64 → ℝ} {la lb lc : FVec Ideal S16x1 .f32} {s r : FVec Ideal S16x192 .f32}
    {L K : Fin 16 → ℝ} (hs : At (fun n b j => Math.fwd (fun t => M t b) (fun t => Q t b) x X Y n j) s 256 L)
    (hr : At (fun n b j => Math.bwd (fun t => M t b) (fun t => Q t b) y X Y n j) (rnorm r) 255 K)
    (hL : Keeps (addf la lc) L) (hK : Keeps (addf lb (log (rmax r))) K) :
    k0_pay1 N (k0_pay63 (F := Ideal) em) la lb r s lc (ix2 0 0)
      = ((n - ∑ b, Real.log (Math.total (fun t => M t b) (fun t => Q t b) x y X Y) : ℝ) : EReal) := by
  obtain ⟨S, hS, hS'⟩ := hs
  obtain ⟨R, hR, hR'⟩ := hr
  have hcol : ∀ j : Fin 64, col ⟨j.val, by omega⟩ = j := fun j => Fin.ext (Nat.mod_eq_of_lt j.isLt)
  have hz : ∀ b : Fin 16, (∑ j : Fin 64, s (ix2 b ⟨j.val, by omega⟩) * k0_pay63 (F := Ideal) em (ix3 256 b j) * rnorm r (ix2 b ⟨j.val, by omega⟩))
      = ((∑ j, S b j * Real.exp (M 256 b j) * R b j : ℝ) : EReal) := fun b => by
    rw [← coe_sum]
    refine Finset.sum_congr rfl fun j _ => ?_
    have h1 : k0_pay63 (F := Ideal) em (ix3 256 b j) = ((Real.exp (M 256 b j) : ℝ) : EReal) := by
      show Ideal.exp (em (ix3 256 b j)) = _
      rw [hem]; rfl
    rw [hS, hR, h1, hcol, EReal.coe_mul, EReal.coe_mul]
  have ht : ∀ b : Fin 16, (∑ j, S b j * Real.exp (M 256 b j) * R b j) * (Real.exp (L b) * Real.exp (K b) * 2 ^ 2555)
      = Math.total (fun t => M t b) (fun t => Q t b) x y X Y := fun b => by
    rw [← Math.meet (fun t => M t b) (fun t => Q t b) x y X Y 255 (by norm_num), Finset.sum_mul]
    refine Finset.sum_congr rfl fun j _ => ?_
    have e1 := hS' b j
    have e2 := hR' b j
    dsimp only at e1 e2
    rw [show 511 - 255 = 256 from rfl, ← e1, ← e2]
    have e3 : (2 : ℝ) ^ 2555 = 32 ^ 256 * 32 ^ 255 := by
      rw [← pow_add, show (32 : ℝ) = 2 ^ 5 by norm_num, ← pow_mul]
    rw [e3]
    ring
  have hpos : ∀ b : Fin 16, 0 < ∑ j, S b j * Real.exp (M 256 b j) * R b j := fun b => by
    have h1 := Math.total_pos (fun t => M t b) (fun t => Q t b) x y X Y
    rw [← ht b] at h1
    exact pos_of_mul_pos_left h1 (by positivity)
  have hlog : ∀ b : Fin 16, Real.log (∑ j, S b j * Real.exp (M 256 b j) * R b j)
      = Real.log (Math.total (fun t => M t b) (fun t => Q t b) x y X Y) - L b - K b - 2555 * Real.log 2 := fun b => by
    have h2 : (0 : ℝ) < 2 ^ 2555 := by positivity
    rw [← ht b, Real.log_mul (hpos b).ne' (by positivity), Real.log_mul (by positivity) h2.ne', Real.log_mul (Real.exp_ne_zero _) (Real.exp_ne_zero _),
      Real.log_exp, Real.log_exp, Real.log_pow]
    push_cast
    ring
  rw [finish_apply, hN]
  simp only [hL _, hK _, hz, Ideal.log_coe, if_neg (not_le.mpr (hpos _)), coe_sum, ← EReal.coe_add, ← EReal.coe_sub, hlog]
  congr 1
  simp only [Finset.sum_sub_distrib, Finset.sum_const, Finset.card_univ, Fintype.card_fin]
  ring

end Cert.Proof.KI

end
-- ==== Proof.KI.Numer.lean ====
module

public import proofs.«01_k».proof.Proof.KI.Tables

@[expose] public section

set_option maxRecDepth 16384

noncomputable section

namespace Cert.Proof.KI

open Cert.KernelIdeal Cert.KernelIdeal.Gen
open Idealize.ShloMosaic Idealize.ShloMosaic.TcCoe
open Idealize.SL.Sem
open Cert.Proof

/-! The kernel's score of the given tags, over the real numbers. -/

/-- A sum over a whole array of one leading row. -/
theorem reduce_all (h : S1x512x16x64.Reduces [1, 2, 3] S1) (x : FVec Ideal S512x16x64 .f32) :
    Ideal.reduceAdd h (shapeCast S1x512x16x64 x shapeCasts_S512x16x64_S1x512x16x64) (ix1 0)
      = ∑ t : Fin 512, ∑ b : Fin 16, ∑ k : Fin 64, x (ix3 t b k) := by
  unfold Ideal.reduceAdd
  rw [Finset.filter_true_of_mem fun i _ => ?_, sum_idx4, Fin.sum_univ_one]
  · refine Finset.sum_congr rfl fun t _ => Finset.sum_congr rfl fun b _ => Finset.sum_congr rfl fun k _ => ?_
    pointwise []
  · funext a
    exact Fin.ext (by have := (h.drop i a).isLt; have h2 := (ix1 (0 : Fin 1) a).isLt; match a with | ⟨0, _⟩ => first | omega | (change _ < 1 at this; change _ < 1 at h2; omega))

/-- One where a class is the one a word names, else zero, as the kernel computes it. -/
def hotE (k : Fin 64) (w : BitVec 32) : EReal := FloatOps.sitofp (F := Ideal) FTy.f32 (BitVec.setWidth 32 (IntOp.cmpi CmpIPredicate.eq (BitVec.ofNat 32 k.val) w))

/-- The same as a real number. -/
def hot (k : Fin 64) (w : BitVec 32) : ℝ := (((BitVec.setWidth 32 (IntOp.cmpi CmpIPredicate.eq (BitVec.ofNat 32 k.val) w)).toInt : ℤ) : ℝ)

theorem hotE_eq (k : Fin 64) (w : BitVec 32) : hotE k w = ((hot k w : ℝ) : EReal) := rfl

/-- The words of two classes agree only where the classes do. -/
theorem hot_word (k g : Fin 64) : hot k (BitVec.ofNat 32 g.val) = if k = g then 1 else 0 := by
  have h : ∀ k g : Fin 64, (BitVec.setWidth 32 (IntOp.cmpi CmpIPredicate.eq (BitVec.ofNat 32 k.val) (BitVec.ofNat 32 g.val))).toInt
      = if k = g then 1 else 0 := by decide +kernel
  rw [hot, h]
  split_ifs <;> simp

/-- A sum against one hot class. -/
theorem sum_hot (g : Fin 64) (f : Fin 64 → ℝ) : ∑ k, hot k (BitVec.ofNat 32 g.val) * f k = f g := by
  simp only [hot_word, ite_mul, one_mul, zero_mul, Finset.sum_ite_eq', Finset.mem_univ, if_true]

/-- The given tags as classes. -/
def Tagged (tg : IVec S512x16 32) (G : ℕ → Fin 16 → Fin 64) : Prop := ∀ (t : Fin 512) (b : Fin 16), tg (ix2 t b) = BitVec.ofNat 32 (G t.val b).val

/-- One position's part of the score, as the kernel computes it. -/
def part (tg3 ps : IVec S512x16x64 32) (I C em : FVec Ideal S512x16x64 .f32) (sT oT : Vec Ideal S64x64 .f32) (t r : Fin 512) (b : Fin 16) : EReal :=
  ∑ k : Fin 64, hotE k (tg3 (ix3 t b k)) * (em (ix3 t b k) + (∑ i : Fin 64, hotE i (ps (ix3 t b i)) * sT (ix2 i k)) * I (ix3 t b k)
    + (∑ i : Fin 64, hotE i (tg3 (ix3 r b i)) * oT (ix2 i k)) * C (ix3 t b k))

/-- The score of all positions, read. -/
theorem numer_read (tg3 ps : IVec S512x16x64 32) (I em : FVec Ideal S512x16x64 .f32) (q3 : IVec S512x16x64 1) (a c : FVec Ideal S512x16x64 .f32)
    (sT oT : Vec Ideal S64x64 .f32) (st en : Vec Ideal S1x64 .f32) :
    k0_pay59 (k0_pay57 tg3 ps I q3 a c em sT oT st) (k0_pay58 (F := Ideal) tg3) en
      = (((∑ b : Fin 16, part tg3 ps I (select q3 a c) em sT oT 0 0 b)
          + ∑ t : Fin 511, ∑ b : Fin 16, part tg3 ps I (select q3 a c) em sT oT ⟨1 + t.val, by omega⟩ ⟨t.val, by omega⟩ b)
        + ∑ b : Fin 16, ∑ k : Fin 64, hotE k (tg3 (ix3 0 b k)) * st (ix2 0 k))
        + ∑ b : Fin 16, ∑ k : Fin 64, hotE k (tg3 (ix3 511 b k)) * en (ix2 0 k) := by
  have h : k0_pay57 tg3 ps I q3 a c em sT oT st = ((∑ b : Fin 16, part tg3 ps I (select q3 a c) em sT oT 0 0 b)
          + ∑ t : Fin 511, ∑ b : Fin 16, part tg3 ps I (select q3 a c) em sT oT ⟨1 + t.val, by omega⟩ ⟨t.val, by omega⟩ b)
        + ∑ b : Fin 16, ∑ k : Fin 64, hotE k (tg3 (ix3 0 b k)) * st (ix2 0 k) := by
    pointwise [k0_pay57, k0_pay56, k0_pay55]
    rw [reduce_all]
    pointwise []
    simp only [Fin.sum_univ_one]
    rfl
  rw [← h]
  pointwise [k0_pay59, k0_pay58, k0_pay56]
  rfl

section

variable {em : FVec Ideal S512x16x64 .f32} {tg q : IVec S512x16 32} {sT oT : Vec Ideal S64x64 .f32} {st en : Vec Ideal S1x64 .f32}
  {M : ℕ → Fin 16 → Fin 64 → ℝ} {G : ℕ → Fin 16 → Fin 64} {Q : ℕ → Fin 16 → Bool} {X Y : Fin 64 → Fin 64 → ℝ} {x y : Fin 64 → ℝ}

/-- The tags, spread over the classes. -/
theorem tags_spread (t : Fin 512) (b : Fin 16) (k : Fin 64) : k0_pay47 (F := Ideal) tg (ix3 t b k) = tg (ix2 t b) := by
  pointwise [k0_pay47]

/-- One position's part of the score over the real numbers. -/
theorem part_value (hem : Emits em M) (htg : Tagged tg G) (hq : Speaks q Q) (hX : Mat sT X) (hY : Mat oT Y) (t r : Fin 512) (b : Fin 16) :
    part (k0_pay47 (F := Ideal) tg) (prevSame (F := Ideal) tg q) (inertF q) (contF q) em sT oT t r b
      = ((M t.val b (G t.val b) + X (G (Math.conv (fun t => Q t b) t.val - 1) b) (G t.val b) * Math.inert (fun t => Q t b) t.val
          + Y (G r.val b) (G t.val b) * Math.cont (fun t => Q t b) t.val : ℝ) : EReal) := by
  have h1 : ∀ k : Fin 64, (∑ i : Fin 64, hotE i (prevSame (F := Ideal) tg q (ix3 t b i)) * sT (ix2 i k)) * inertF (F := Ideal) q (ix3 t b k)
      = ((X (G (Math.conv (fun t => Q t b) t.val - 1) b) k * Math.inert (fun t => Q t b) t.val : ℝ) : EReal) := fun k => by
    have h2 : ∀ i : Fin 64, hotE i (prevSame (F := Ideal) tg q (ix3 t b i)) * sT (ix2 i k)
        = ((hot i (prevSame (F := Ideal) tg q (ix3 t b i)) * X i k : ℝ) : EReal) := fun i => by rw [hotE_eq, hX, EReal.coe_mul]
    rw [Finset.sum_congr rfl fun i _ => h2 i, coe_sum, inertF_apply hq, ← EReal.coe_mul]
    congr 1
    by_cases hc : 0 < Math.conv (fun t => Q t b) t.val
    · congr 1
      rw [← sum_hot (G (Math.conv (fun t => Q t b) t.val - 1) b) (fun i => X i k)]
      refine Finset.sum_congr rfl fun i _ => ?_
      rw [prevSame_apply hq tg t b i hc, htg]
    · rw [Math.inert, if_neg hc, mul_zero, mul_zero]
  have h3 : ∀ k : Fin 64, (∑ i : Fin 64, hotE i (k0_pay47 (F := Ideal) tg (ix3 r b i)) * oT (ix2 i k)) * contF (F := Ideal) q (ix3 t b k)
      = ((Y (G r.val b) k * Math.cont (fun t => Q t b) t.val : ℝ) : EReal) := fun k => by
    have h2 : ∀ i : Fin 64, hotE i (k0_pay47 (F := Ideal) tg (ix3 r b i)) * oT (ix2 i k)
        = ((hot i (BitVec.ofNat 32 (G r.val b).val) * Y i k : ℝ) : EReal) := fun i => by rw [hotE_eq, hY, tags_spread, htg, EReal.coe_mul]
    rw [Finset.sum_congr rfl fun i _ => h2 i, coe_sum, contF_apply hq, ← EReal.coe_mul, sum_hot (G r.val b) fun i => Y i k]
  have h4 : ∀ k : Fin 64, hotE k (k0_pay47 (F := Ideal) tg (ix3 t b k)) = ((hot k (BitVec.ofNat 32 (G t.val b).val) : ℝ) : EReal) := fun k => by
    rw [hotE_eq, tags_spread, htg]
  unfold part
  simp only [h1, h3, h4, hem _ _ _, ← EReal.coe_add, ← EReal.coe_mul, coe_sum]
  congr 1
  exact sum_hot (G t.val b) fun k => M t.val b k + X (G (Math.conv (fun t => Q t b) t.val - 1) b) k * Math.inert (fun t => Q t b) t.val
    + Y (G r.val b) k * Math.cont (fun t => Q t b) t.val

/-- A row against the one hot class of a position. -/
theorem edge_value (htg : Tagged tg G) (hx : Row st x) (t : Fin 512) (b : Fin 16) :
    ∑ k : Fin 64, hotE k (k0_pay47 (F := Ideal) tg (ix3 t b k)) * st (ix2 0 k) = ((x (G t.val b) : ℝ) : EReal) := by
  have h : ∀ k : Fin 64, hotE k (k0_pay47 (F := Ideal) tg (ix3 t b k)) * st (ix2 0 k) = ((hot k (BitVec.ofNat 32 (G t.val b).val) * x k : ℝ) : EReal) := fun k => by
    rw [hotE_eq, tags_spread, htg, hx, EReal.coe_mul]
  rw [Finset.sum_congr rfl fun k _ => h k, coe_sum, sum_hot]

/-- The kernel's score is the model's, over the batch. -/
theorem numer_value (hem : Emits em M) (htg : Tagged tg G) (hq : Speaks q Q) (hX : Mat sT X) (hY : Mat oT Y) (hx : Row st x) (hy : Row en y) :
    numer em tg q st en sT oT
      = ((∑ b, Math.score (fun t => M t b) (fun t => Q t b) x y X Y (fun t => G t b) : ℝ) : EReal) := by
  have h : numer em tg q st en sT oT = _ := numer_read (k0_pay47 (F := Ideal) tg) (prevSame (F := Ideal) tg q) (inertF q) em (k0_pay52 (F := Ideal) q) k0_pay53 k0_pay54 sT oT st en
  rw [h, show select (k0_pay52 (F := Ideal) q) (k0_pay53 (F := Ideal)) k0_pay54 = contF q from rfl]
  simp only [part_value hem htg hq hX hY, edge_value htg hx, edge_value htg hy, coe_sum, ← EReal.coe_add]
  congr 1
  rw [Finset.sum_comm, ← Finset.sum_add_distrib, ← Finset.sum_add_distrib, ← Finset.sum_add_distrib]
  refine Finset.sum_congr rfl fun b _ => ?_
  unfold Math.score
  rw [Finset.sum_range]
  have h0 : ((0 : Fin 512) : ℕ) = 0 := rfl
  have h511 : ((511 : Fin 512) : ℕ) = 511 := rfl
  have hi : Math.inert (fun t => Q t b) 0 = 0 := by rw [Math.inert, Math.conv_first]; simp
  have hc : Math.cont (fun t => Q t b) 0 = 0 := by rw [Math.cont, Math.conv_first]; simp
  rw [h0, h511, hi, hc]
  have ht : ∀ t : Fin 511, 1 + t.val = t.val + 1 := fun t => Nat.add_comm _ _
  simp only [ht, mul_zero, add_zero]
  have e : ∀ a b c : ℝ, a + b + c = b + c + a := fun a b c => by ring
  simp only [e (M _ _ _)]
  ring

end

end Cert.Proof.KI

end
-- ==== Proof.KI.Out.lean ====
module

public import proofs.«01_k».proof.Proof.KI.Denom
public import proofs.«01_k».proof.Proof.KI.Numer

@[expose] public section

set_option maxRecDepth 16384

noncomputable section

namespace Cert.Proof.KI

open Cert.KernelIdeal Cert.KernelIdeal.Gen
open Idealize.ShloMosaic Idealize.ShloMosaic.TcCoe
open Idealize.SL.Sem
open Cert.Proof

/-! What the kernel leaves, over the real numbers. -/

/-- A sum column of zeros. -/
theorem zero_col : Keeps (k0_pay70 (F := Ideal)) fun _ => 0 := fun b => by
  show Ideal.ofBits .f32 0x00000000#32 = _
  simp [Ideal.ofBits, Ideal.ieee]

/-- The kernel's result is the model's value. -/
theorem crfOut_value {em : FVec Ideal S512x16x64 .f32} {tg q : IVec S512x16 32} {st en : FVec Ideal S1x64 .f32} {sT oT sTt oTt : FVec Ideal S64x64 .f32}
    {M : ℕ → Fin 16 → Fin 64 → ℝ} {G : ℕ → Fin 16 → Fin 64} {Q : ℕ → Fin 16 → Bool} {X Y : Fin 64 → Fin 64 → ℝ} {x y : Fin 64 → ℝ}
    (hem : Emits em M) (htg : Tagged tg G) (hq : Speaks q Q) (hx : Row st x) (hy : Row en y) (hX : Mat sT X) (hY : Mat oT Y)
    (hXt : Mat sTt fun i j => X j i) (hYt : Mat oTt fun i j => Y j i) :
    crfOut em tg q st en sT oT sTt oTt (ix2 0 0) = ((Math.value M G Q x y X Y : ℝ) : EReal) := by
  have hA := chainA hem hq hX hY x
  have hB := chainB hem hq hXt hYt y
  have h0 : Carried (fun n b j => Math.fwd (fun t => M t b) (fun t => Q t b) x X Y n j) (fun n b j => Math.bwd (fun t => M t b) (fun t => Q t b) y X Y n j)
      (k0_pay68 st, k0_pay69 en, k0_pay70, k0_pay70) 0 :=
    ⟨fun _ => 0, fun _ => 0, ⟨_, stA_holds hx, fun b j => by simp [Math.fwd]⟩, ⟨_, stB_holds hy, fun b j => by simp [Math.bwd]⟩, zero_col, zero_col⟩
  have h15 := loop_carried hA hB 15 le_rfl _ h0
  obtain ⟨L, K, h1, h2, h3, h4⟩ := meet_carried hA hB _ h15
  rw [Math.value, Finset.sum_sub_distrib]
  exact finish_value (numer_value hem htg hq hX hY hx hy) hem h1 h2 h3 h4

end Cert.Proof.KI

end
-- ==== Proof.KI.Final.lean ====
module

public import proofs.«01_k».proof.Proof.KI.Run
public import Idealize.ShloMosaic.Lib.Claim
public import Idealize.ShloMosaic.Lib.Pointwise
public import Idealize.ShloMosaic.Lib.Pipeline.ValueKit

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL.Sem

/-! What the kernel's program holds at its end. -/

variable (m : (ℓ : Loc nD τ sig) → Buf (Elt Ideal) ℓ) (ρ : Dev nD → PrngReg)

/-- Every window's block is its whole array. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] :=
  (by decide +kernel : ∀ t : Fin grid0.N, _)

theorem blk0 (c : Dev nD) (t : Fin cfg0.N) : iblk m c 0 t = m ((c : Thread nD τ).loc main_arg0) := by blk_ext! [iblk, V, idx t]
theorem blk1 (c : Dev nD) (t : Fin cfg0.N) : iblk m c 1 t = m ((c : Thread nD τ).loc main_arg1) := by blk_ext! [iblk, V, idx t]
theorem blk2 (c : Dev nD) (t : Fin cfg0.N) : iblk m c 2 t = m ((c : Thread nD τ).loc main_arg2) := by blk_ext! [iblk, V, idx t]
theorem blk3 (c : Dev nD) (t : Fin cfg0.N) : iblk m c 3 t = V m c main_v0 := by blk_ext! [iblk, idx t]
theorem blk4 (c : Dev nD) (t : Fin cfg0.N) : iblk m c 4 t = V m c main_v1 := by blk_ext! [iblk, idx t]
theorem blk5 (c : Dev nD) (t : Fin cfg0.N) : iblk m c 5 t = m ((c : Thread nD τ).loc main_arg6) := by blk_ext! [iblk, V, idx t]
theorem blk6 (c : Dev nD) (t : Fin cfg0.N) : iblk m c 6 t = m ((c : Thread nD τ).loc main_arg7) := by blk_ext! [iblk, V, idx t]
theorem blk7 (c : Dev nD) (t : Fin cfg0.N) : iblk m c 7 t = V m c main_v2 := by blk_ext! [iblk, idx t]
theorem blk8 (c : Dev nD) (t : Fin cfg0.N) : iblk m c 8 t = V m c main_v3 := by blk_ext! [iblk, idx t]

theorem V_v0 (c : Dev nD) : V m c main_v0 = shapeCast S1x64 (m ((c : Thread nD τ).loc main_arg4)) shapeCasts_S64_S1x64 := by
  show StableHlo.after hostOps0 (fun b => m (c, b)) _ = _
  after_results
  rfl
theorem V_v1 (c : Dev nD) : V m c main_v1 = shapeCast S1x64 (m ((c : Thread nD τ).loc main_arg5)) shapeCasts_S64_S1x64 := by
  show StableHlo.after hostOps0 (fun b => m (c, b)) _ = _
  after_results
  rfl
theorem V_v2 (c : Dev nD) : V m c main_v2 = transpose S64x64 [1, 0] (m ((c : Thread nD τ).loc main_arg6)) transposes_S64x64_S64x64_1_0 := by
  show StableHlo.after hostOps0 (fun b => m (c, b)) _ = _
  after_results
theorem V_v3 (c : Dev nD) : V m c main_v3 = transpose S64x64 [1, 0] (m ((c : Thread nD τ).loc main_arg7)) transposes_S64x64_S64x64_1_0 := by
  show StableHlo.after hostOps0 (fun b => m (c, b)) _ = _
  after_results

/-- The kernel's result over the launch's arguments. -/
def outM (c : Dev nD) : Vec Ideal S1x1 .f32 :=
  crfOut (m ((c : Thread nD τ).loc main_arg0)) (m ((c : Thread nD τ).loc main_arg1)) (m ((c : Thread nD τ).loc main_arg2))
    (shapeCast S1x64 (m ((c : Thread nD τ).loc main_arg4)) shapeCasts_S64_S1x64) (shapeCast S1x64 (m ((c : Thread nD τ).loc main_arg5)) shapeCasts_S64_S1x64)
    (m ((c : Thread nD τ).loc main_arg6)) (m ((c : Thread nD τ).loc main_arg7))
    (transpose S64x64 [1, 0] (m ((c : Thread nD τ).loc main_arg6)) transposes_S64x64_S64x64_1_0)
    (transpose S64x64 [1, 0] (m ((c : Thread nD τ).loc main_arg7)) transposes_S64x64_S64x64_1_0)

theorem outAt_eq (c : Dev nD) (t : Fin cfg0.N) : outAt m c t = outM m c := by
  rw [outAt, outM, ← V_v0, ← V_v1, ← V_v2, ← V_v3, ← blk0 m c t, ← blk1 m c t, ← blk2 m c t, ← blk3 m c t, ← blk4 m c t, ← blk5 m c t, ← blk6 m c t, ← blk7 m c t, ← blk8 m c t]

/-- The result window's array at the end. -/
theorem final (c : Dev nD) : (dats m 0 c).arrAt 9 (cfgs 0).N = outM m c := by
  refine (dats m 0 c).arrAt_eq_of_after_last 9 t0_0 (by decide +kernel) _ fun j => ?_
  blk_simp
  rw [after0_9, outAt_eq]
  blk_ext [idx t0_0]

/-- The reshape after the region reads the result window's array. -/
theorem tail_v5 (c : Dev nD) : Pipeline.afterTail₀ cfgs (dats m) 0 (V0 m) [hostOps1] c main_v5 = shapeCast S_ (outM m c) shapeCasts_S1x1_S_ := by
  have h : (Pipeline.withArrays spec0 c (V0 m c) fun w => (dats m 0 c).arrAt w (cfgs 0).N) (Proc.devRef .tc main_v4) = outM m c :=
    (Pipeline.withArrays_arr spec0 (by decide) c (V0 m c) (fun w => (dats m 0 c).arrAt w (cfgs 0).N) 9).trans (final m c)
  rw [← h]
  show StableHlo.after hostOps1 _ _ = _
  after_results
  rfl

/-- The program's result at the end: the kernel's result as a number without axes. -/
theorem run_value : θ_run defs (onTc (τ := τ) (main (F := Ideal))) ⟨m, fun _ => 0, ρ⟩ (fun r => (∀ c : Dev nD,
      r.2.mem ((c.tc : Thread nD τ).loc main_v5) = shapeCast S_ (outM m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))) := by
  run_from ((θ_run defs _ _).mono (fun _ h => h.1) (run_main m ρ))
  · exact tail_v5 m c
  · exact W_main_arg3 m (dats m) c
  · exact W_main_arg4 m (dats m) c
  · exact W_main_arg5 m (dats m) c

end Cert.Proof.KI

end
-- ==== Proof.R.Terms.lean ====
module

public import proofs.«01_k».proof.Proof.R.Frame
public import Idealize.ShloMosaic.Lib.Pointwise

@[expose] public section

set_option maxRecDepth 16384

noncomputable section

namespace Cert.Proof.R

open Cert.ReferenceIdeal Cert.ReferenceIdeal.Gen Cert.ReferenceIdeal.Value
open Idealize.ShloMosaic Idealize.ShloMosaic.TcCoe Idealize.ShloMosaic.StableHlo
open Idealize.SL Idealize.SL.Sem
open Cert.Proof

/-! The reference's lines outside its loop, named piece by piece. -/

/-- One more than the last earlier position of the same speaker, as the program counts it. -/
def convOf (q : IVec S512x16 32) : IVec S512x16 32 :=
  Host.reduce IntOp.maxsi (select (andi (cmpi .eq (broadcastInDim S512x512x16 ![0, 1, 2] bcast_S1x512x16_S512x512x16_0_1_2 (broadcastInDim S1x512x16 ![1, 2] bcast_S512x16_S1x512x16_1_2 q)) (broadcastInDim S512x512x16 ![0, 1, 2] bcast_S512x1x16_S512x512x16_0_1_2 (broadcastInDim S512x1x16 ![0, 2] bcast_S512x16_S512x1x16_0_2 q))) (broadcastInDim S512x512x16 ![0, 1, 2] bcast_S512x512x1_S512x512x16_0_1_2 (cmpi .slt (broadcastInDim S512x512x1 ![0, 1, 2] bcast_S1x512x1_S512x512x1_0_1_2 (broadcastInDim S1x512x1 ![1] bcast_S512_S1x512x1_1 (iotaInDim S512 32 0))) (broadcastInDim S512x512x1 ![0, 1, 2] bcast_S512x1x1_S512x512x1_0_1_2 (broadcastInDim S512x1x1 ![0] bcast_S512_S512x1x1_0 (iotaInDim S512 32 0)))))) (broadcastInDim S512x512x16 ![0, 1, 2] bcast_S1x512x1_S512x512x16_0_1_2 (addi (broadcastInDim S1x512x1 ![1] bcast_S512_S1x512x1_1 (iotaInDim S512 32 0)) (broadcastInDim S1x512x1 ![] bcast_S_S1x512x1 (constantI S_ 32 1#32)))) (broadcastInDim S512x512x16 ![] bcast_S_S512x512x16 (id (constantI S_ 32 0#32)))) (constantI S_ 32 2147483648#32) reducesTo_S512x512x16_S512x16_d1 h_S_

/-- Whether the speaker spoke before. -/
def inertOfConv (c : IVec S512x16 32) : FVec Ideal S512x16 .f32 :=
  uitofp .f32 (cmpi .sgt c (broadcastInDim S512x16 ![] bcast_S_S512x16 (constantI S_ 32 0#32)))

/-- Whether somebody else spoke just before. -/
def contOfConv (c : IVec S512x16 32) : FVec Ideal S512x16 .f32 :=
  uitofp .f32 (cmpi .ne c (broadcastInDim S512x16 ![0, 1] bcast_S512x1_S512x16_0_1 (broadcastInDim S512x1 ![0] bcast_S512_S512x1_0 (iotaInDim S512 32 0))))

/-- The first position's classes. -/
def firstTag (tg : IVec S512x16 32) : IVec S16 32 :=
  shapeCast S16 (extractStridedSlice S1x16 ![0, 0] tg slices_S512x16_S1x16_0_0) shapeCasts_S1x16_S16

/-- A table of classes read at the words. -/
def classAt (x : FVec Ideal S64 .f32) (w : IVec S16 32) : FVec Ideal S16 .f32 :=
  Host.gather gather_S64_S16x1_S16_n_0_n_n_0_1_1 x (broadcastInDim S16x1 ![0] bcast_S16_S16x1_0 (select (cmpi .slt w (broadcastInDim S16 ![] bcast_S_S16 (constantI S_ 32 0#32))) (addi w (broadcastInDim S16 ![] bcast_S_S16 (constantI S_ 32 64#32))) w))

/-- The first position's scores read at the words. -/
def firstEm (em : FVec Ideal S512x16x64 .f32) (w : IVec S16 32) : FVec Ideal S16 .f32 :=
  Host.gather gather_S512x16x64_S16x3_S16_n_012_n_n_012_1_111 em (concatenate S16x3 1 [⟨S16x1, (broadcastInDim S16x1 ![0] bcast_S16_S16x1_0 (id (broadcastInDim S16 ![] bcast_S_S16 (constantI S_ 32 0#32))))⟩, ⟨S16x1, (broadcastInDim S16x1 ![0] bcast_S16_S16x1_0 (select (cmpi .slt (iotaInDim S16 32 0) (broadcastInDim S16 ![] bcast_S_S16 (constantI S_ 32 0#32))) (addi (iotaInDim S16 32 0) (broadcastInDim S16 ![] bcast_S_S16 (constantI S_ 32 16#32))) (iotaInDim S16 32 0)))⟩, ⟨S16x1, (broadcastInDim S16x1 ![0] bcast_S16_S16x1_0 (select (cmpi .slt w (broadcastInDim S16 ![] bcast_S_S16 (constantI S_ 32 0#32))) (addi w (broadcastInDim S16 ![] bcast_S_S16 (constantI S_ 32 64#32))) w))⟩] concatenates_S16x1_S16x1_S16x1_S16x3_d1)

/-- The position the count points at, kept within the table. -/
def ancestor (c : IVec S512x16 32) : IVec S512x16 32 :=
  minsi (broadcastInDim S512x16 ![] bcast_S_S512x16 (id (constantI S_ 32 511#32))) (maxsi (broadcastInDim S512x16 ![] bcast_S_S512x16 (id (constantI S_ 32 0#32))) (subi c (broadcastInDim S512x16 ![] bcast_S_S512x16 (constantI S_ 32 1#32))))

/-- The classes at those positions. -/
def ancestorTag (tg a : IVec S512x16 32) : IVec S512x16 32 :=
  Host.gather gather_S512x16_S512x16x2_S512x16_n_01_n_n_01_2_11 tg (concatenate S512x16x2 2 [⟨S512x16x1, (broadcastInDim S512x16x1 ![0, 1] bcast_S512x16_S512x16x1_0_1 (select (cmpi .slt a (broadcastInDim S512x16 ![] bcast_S_S512x16 (constantI S_ 32 0#32))) (addi a (broadcastInDim S512x16 ![] bcast_S_S512x16 (constantI S_ 32 512#32))) a))⟩, ⟨S512x16x1, (broadcastInDim S512x16x1 ![0, 1] bcast_S512x16_S512x16x1_0_1 (broadcastInDim S512x16 ![0, 1] bcast_S1x16_S512x16_0_1 (select (cmpi .slt (broadcastInDim S1x16 ![1] bcast_S16_S1x16_1 (iotaInDim S16 32 0)) (broadcastInDim S1x16 ![] bcast_S_S1x16 (constantI S_ 32 0#32))) (addi (broadcastInDim S1x16 ![1] bcast_S16_S1x16_1 (iotaInDim S16 32 0)) (broadcastInDim S1x16 ![] bcast_S_S1x16 (constantI S_ 32 16#32))) (broadcastInDim S1x16 ![1] bcast_S16_S1x16_1 (iotaInDim S16 32 0)))))⟩] concatenates_S512x16x1_S512x16x1_S512x16x2_d2)

/-- A table of steps read from the one words to the other. -/
def moved (x : FVec Ideal S64x64 .f32) (p tg : IVec S512x16 32) : FVec Ideal S512x16 .f32 :=
  Host.gather gather_S64x64_S512x16x2_S512x16_n_01_n_n_01_2_11 x (concatenate S512x16x2 2 [⟨S512x16x1, (broadcastInDim S512x16x1 ![0, 1] bcast_S512x16_S512x16x1_0_1 (select (cmpi .slt p (broadcastInDim S512x16 ![] bcast_S_S512x16 (constantI S_ 32 0#32))) (addi p (broadcastInDim S512x16 ![] bcast_S_S512x16 (constantI S_ 32 64#32))) p))⟩, ⟨S512x16x1, (broadcastInDim S512x16x1 ![0, 1] bcast_S512x16_S512x16x1_0_1 (select (cmpi .slt tg (broadcastInDim S512x16 ![] bcast_S_S512x16 (constantI S_ 32 0#32))) (addi tg (broadcastInDim S512x16 ![] bcast_S_S512x16 (constantI S_ 32 64#32))) tg))⟩] concatenates_S512x16x1_S512x16x1_S512x16x2_d2)

/-- The classes one position earlier. -/
def previousTag (tg : IVec S512x16 32) : IVec S512x16 32 :=
  concatenate S512x16 0 [⟨S1x16, (extractStridedSlice S1x16 ![0, 0] tg slices_S512x16_S1x16_0_0)⟩, ⟨S511x16, (extractStridedSlice S511x16 ![0, 0] tg slices_S512x16_S511x16_0_0)⟩] concatenates_S1x16_S511x16_S512x16_d0

/-- Every position's score of its class. -/
def emAt (em : FVec Ideal S512x16x64 .f32) (tg : IVec S512x16 32) : FVec Ideal S512x16 .f32 :=
  Host.gather gather_S512x16x64_S512x16x3_S512x16_n_012_n_n_012_2_111 em (concatenate S512x16x3 2 [⟨S512x16x1, (broadcastInDim S512x16x1 ![0, 1] bcast_S512x16_S512x16x1_0_1 (broadcastInDim S512x16 ![0, 1] bcast_S512x1_S512x16_0_1 (select (cmpi .slt (broadcastInDim S512x1 ![0] bcast_S512_S512x1_0 (iotaInDim S512 32 0)) (broadcastInDim S512x1 ![] bcast_S_S512x1 (constantI S_ 32 0#32))) (addi (broadcastInDim S512x1 ![0] bcast_S512_S512x1_0 (iotaInDim S512 32 0)) (broadcastInDim S512x1 ![] bcast_S_S512x1 (constantI S_ 32 512#32))) (broadcastInDim S512x1 ![0] bcast_S512_S512x1_0 (iotaInDim S512 32 0)))))⟩, ⟨S512x16x1, (broadcastInDim S512x16x1 ![0, 1] bcast_S512x16_S512x16x1_0_1 (broadcastInDim S512x16 ![0, 1] bcast_S1x16_S512x16_0_1 (select (cmpi .slt (broadcastInDim S1x16 ![1] bcast_S16_S1x16_1 (iotaInDim S16 32 0)) (broadcastInDim S1x16 ![] bcast_S_S1x16 (constantI S_ 32 0#32))) (addi (broadcastInDim S1x16 ![1] bcast_S16_S1x16_1 (iotaInDim S16 32 0)) (broadcastInDim S1x16 ![] bcast_S_S1x16 (constantI S_ 32 16#32))) (broadcastInDim S1x16 ![1] bcast_S16_S1x16_1 (iotaInDim S16 32 0)))))⟩, ⟨S512x16x1, (broadcastInDim S512x16x1 ![0, 1] bcast_S512x16_S512x16x1_0_1 (select (cmpi .slt tg (broadcastInDim S512x16 ![] bcast_S_S512x16 (constantI S_ 32 0#32))) (addi tg (broadcastInDim S512x16 ![] bcast_S_S512x16 (constantI S_ 32 64#32))) tg))⟩] concatenates_S512x16x1_S512x16x1_S512x16x1_S512x16x3_d2)

/-- The last position the mask keeps. -/
def lastPosition (mask : IVec S512x16 1) : IVec S16 32 :=
  subi (Host.reduce IntOp.addi (extui 32 mask natLt_1_32) (constantI S_ 32 0#32) reducesTo_S512x16_S16_d0 h_S_) (broadcastInDim S16 ![] bcast_S_S16 (constantI S_ 32 1#32))

/-- The classes there. -/
def lastTag (tg : IVec S512x16 32) (l : IVec S16 32) : IVec S16 32 :=
  Host.gather gather_S512x16_S16x2_S16_n_01_n_n_01_1_11 tg (concatenate S16x2 1 [⟨S16x1, (broadcastInDim S16x1 ![0] bcast_S16_S16x1_0 (select (cmpi .slt l (broadcastInDim S16 ![] bcast_S_S16 (constantI S_ 32 0#32))) (addi l (broadcastInDim S16 ![] bcast_S_S16 (constantI S_ 32 512#32))) l))⟩, ⟨S16x1, (broadcastInDim S16x1 ![0] bcast_S16_S16x1_0 (select (cmpi .slt (iotaInDim S16 32 0) (broadcastInDim S16 ![] bcast_S_S16 (constantI S_ 32 0#32))) (addi (iotaInDim S16 32 0) (broadcastInDim S16 ![] bcast_S_S16 (constantI S_ 32 16#32))) (iotaInDim S16 32 0)))⟩] concatenates_S16x1_S16x1_S16x2_d1)

/-- What every position adds to the score. -/
def stepsOf (p r inert cont e : FVec Ideal S512x16 .f32) (mask : IVec S512x16 1) : FVec Ideal S512x16 .f32 :=
  mulf (addf (addf (mulf p inert) (mulf r cont)) e) (uitofp .f32 mask)

/-- The score from its parts. -/
def scoreOf (s e : FVec Ideal S16 .f32) (z : FVec Ideal S512x16 .f32) (n : FVec Ideal S16 .f32) : FVec Ideal S16 .f32 :=
  addf (addf (addf s e) (Host.reduceAdd (extractStridedSlice S511x16 ![1, 0] z slices_S512x16_S511x16_1_0) (constant S_ .f32 0x00000000#32) reducesTo_S511x16_S16_d0 h_S_)) n

/-- The classes' values at the first position. -/
def alphaStart (st : FVec Ideal S64 .f32) (em : FVec Ideal S512x16x64 .f32) : FVec Ideal S16x64 .f32 :=
  addf (broadcastInDim S16x64 ![0, 1] bcast_S1x64_S16x64_0_1 (broadcastInDim S1x64 ![1] bcast_S64_S1x64_1 st)) (shapeCast S16x64 (extractStridedSlice S1x16x64 ![0, 0, 0] em slices_S512x16x64_S1x16x64_0_0_0) shapeCasts_S1x16x64_S16x64)

/-- The classes' values with the last table added. -/
def lastScores (alpha : FVec Ideal S16x64 .f32) (en : FVec Ideal S64 .f32) : FVec Ideal S16x64 .f32 :=
  addf alpha (broadcastInDim S16x64 ![0, 1] bcast_S1x64_S16x64_0_1 (broadcastInDim S1x64 ![1] bcast_S64_S1x64_1 en))

/-- The greatest of them. -/
def topLast (s : FVec Ideal S16x64 .f32) : FVec Ideal S16x1 .f32 :=
  broadcastInDim S16x1 ![0] bcast_S16_S16x1_0 (Host.reduce FloatOps.maximumf s (constant S_ .f32 0xFF800000#32) reducesTo_S16x64_S16_d1 h_S_)

/-- The result from the score and the last values. -/
def resultOf (s : FVec Ideal S16x64 .f32) (num : FVec Ideal S16 .f32) : FVec Ideal S_ .f32 :=
  Host.reduceAdd (subf num (addf (shapeCast S16 (topLast s) shapeCasts_S16x1_S16) (Host.log (Host.reduceAdd (Host.exp (subf s (broadcastInDim S16x64 ![0, 1] bcast_S16x1_S16x64_0_1 (topLast s)))) (constant S_ .f32 0x00000000#32) reducesTo_S16x64_S16_d1 h_S_)))) (constant S_ .f32 0x00000000#32) reducesTo_S16_S_d0 h_S_

/-- The score from the arguments. -/
def scoreFrom (em : FVec Ideal S512x16x64 .f32) (tg q : IVec S512x16 32) (mask : IVec S512x16 1) (st en : FVec Ideal S64 .f32) (X Y : FVec Ideal S64x64 .f32) :
    FVec Ideal S16 .f32 :=
  scoreOf (classAt st (firstTag tg)) (firstEm em (firstTag tg))
    (stepsOf (moved X (ancestorTag tg (ancestor (convOf q))) tg) (moved Y (previousTag tg) tg) (inertOfConv (convOf q)) (contOfConv (convOf q)) (emAt em tg) mask)
    (classAt en (lastTag tg (lastPosition mask)))

end Cert.Proof.R

end
-- ==== Proof.R.Gather.lean ====
module

public import proofs.«01_k».proof.Proof.R.Terms
public import Idealize.ShloMosaic.Lib.Pointwise

@[expose] public section

set_option maxRecDepth 16384

noncomputable section

namespace Cert.Proof.R

open Cert.ReferenceIdeal Cert.ReferenceIdeal.Gen Cert.ReferenceIdeal.Value
open Idealize.ShloMosaic Idealize.ShloMosaic.TcCoe Idealize.ShloMosaic.StableHlo
open Idealize.SL Idealize.SL.Sem
open Cert.Proof

/-! Tables read at words, an element at a time. -/

/-- A small natural's word, read signed, is the natural. -/
theorem toInt_word (n : ℕ) (h : n < 2 ^ 31) : (BitVec.ofNat 32 n).toInt = (n : ℤ) := by
  rw [BitVec.toInt_eq_toNat_of_lt (by rw [BitVec.toNat_ofNat, Nat.mod_eq_of_lt (by omega)]; omega), BitVec.toNat_ofNat, Nat.mod_eq_of_lt (by omega)]

/-- A table read at whole words is its element at the numbers the words hold. -/
theorem gather_all {α : Type} {s si t : Shape} (d : GatherDims s si t) (hc : ∀ a, a ∈ d.collapsedSliceDims) (hm : ∀ a, a ∈ d.startIndexMap)
    (hb : d.operandBatchingDims = []) (hs : ∀ a, s.size a < 2 ^ 31) (x : s.Idx → α) (idx : IVec si 32) (j : t.Idx) (p : s.Idx)
    (hp : ∀ a, idx (d.siIdx j ⟨d.startIndexMap.idxOf a, List.idxOf_lt_length_iff.2 (hm a)⟩) = BitVec.ofNat 32 (p a).val) :
    Host.gather d x idx j = x p := by
  unfold Host.gather
  refine congrArg x (funext fun a => Fin.ext ?_)
  show d.start j idx a + d.batchCoord j a + d.offCoord j a = (p a).val
  rw [d.batchCoord_eq_zero _ _ (by rw [hb]; exact List.not_mem_nil), d.offCoord_eq_zero _ _ (fun h => ((d.mem_sKept a).1 h).1 (hc a))]
  unfold GatherDims.start
  have h1 := (p a).isLt
  have h2 := hs a
  rw [dif_pos (hm a), hp a, d.slice_collapsed a (hc a), toInt_word _ (by omega)]
  omega

theorem gather_class {α : Type} (x : S64.Idx → α) (idx : IVec S16x1 32) (b : Fin 16) (k : Fin 64)
    (h0 : idx (ix2 b 0) = BitVec.ofNat 32 k.val) :
    Host.gather gather_S64_S16x1_S16_n_0_n_n_0_1_1 x idx (ix1 b) = x (ix1 k) := by
  refine gather_all gather_S64_S16x1_S16_n_0_n_n_0_1_1 (show ∀ a : Fin 1, a ∈ ([0] : List (Fin 1)) by decide) (show ∀ a : Fin 1, a ∈ ([0] : List (Fin 1)) by decide) rfl ?_ x idx _ _ ?_
  · show ∀ a : Fin 1, (![64] : Fin 1 → ℕ) a < 2 ^ 31
    decide
  · intro a
    match a with
    | 0 =>
      refine (congrArg idx (?_ : _ = ix2 b 0)).trans h0
      funext e
      match e with
      | 0 => rfl
      | 1 => rfl

theorem gather_first {α : Type} (x : S512x16x64.Idx → α) (idx : IVec S16x3 32) (b : Fin 16) (t : Fin 512) (d : Fin 16) (k : Fin 64)
    (h0 : idx (ix2 b 0) = BitVec.ofNat 32 t.val) (h1 : idx (ix2 b 1) = BitVec.ofNat 32 d.val) (h2 : idx (ix2 b 2) = BitVec.ofNat 32 k.val) :
    Host.gather gather_S512x16x64_S16x3_S16_n_012_n_n_012_1_111 x idx (ix1 b) = x (ix3 t d k) := by
  refine gather_all gather_S512x16x64_S16x3_S16_n_012_n_n_012_1_111 (show ∀ a : Fin 3, a ∈ ([0,1,2] : List (Fin 3)) by decide) (show ∀ a : Fin 3, a ∈ ([0,1,2] : List (Fin 3)) by decide) rfl ?_ x idx _ _ ?_
  · show ∀ a : Fin 3, (![512,16,64] : Fin 3 → ℕ) a < 2 ^ 31
    decide
  · intro a
    match a with
    | 0 =>
      refine (congrArg idx (?_ : _ = ix2 b 0)).trans h0
      funext e
      match e with
      | 0 => rfl
      | 1 => rfl
    | 1 =>
      refine (congrArg idx (?_ : _ = ix2 b 1)).trans h1
      funext e
      match e with
      | 0 => rfl
      | 1 => rfl
    | 2 =>
      refine (congrArg idx (?_ : _ = ix2 b 2)).trans h2
      funext e
      match e with
      | 0 => rfl
      | 1 => rfl

theorem gather_tags {α : Type} (x : S512x16.Idx → α) (idx : IVec S512x16x2 32) (t : Fin 512) (b : Fin 16) (a : Fin 512) (d : Fin 16)
    (h0 : idx (ix3 t b 0) = BitVec.ofNat 32 a.val) (h1 : idx (ix3 t b 1) = BitVec.ofNat 32 d.val) :
    Host.gather gather_S512x16_S512x16x2_S512x16_n_01_n_n_01_2_11 x idx (ix2 t b) = x (ix2 a d) := by
  refine gather_all gather_S512x16_S512x16x2_S512x16_n_01_n_n_01_2_11 (show ∀ a : Fin 2, a ∈ ([0,1] : List (Fin 2)) by decide) (show ∀ a : Fin 2, a ∈ ([0,1] : List (Fin 2)) by decide) rfl ?_ x idx _ _ ?_
  · show ∀ a : Fin 2, (![512,16] : Fin 2 → ℕ) a < 2 ^ 31
    decide
  · intro a
    match a with
    | 0 =>
      refine (congrArg idx (?_ : _ = ix3 t b 0)).trans h0
      funext e
      match e with
      | 0 => rfl
      | 1 => rfl
      | 2 => rfl
    | 1 =>
      refine (congrArg idx (?_ : _ = ix3 t b 1)).trans h1
      funext e
      match e with
      | 0 => rfl
      | 1 => rfl
      | 2 => rfl

theorem gather_steps {α : Type} (x : S64x64.Idx → α) (idx : IVec S512x16x2 32) (t : Fin 512) (b : Fin 16) (i j : Fin 64)
    (h0 : idx (ix3 t b 0) = BitVec.ofNat 32 i.val) (h1 : idx (ix3 t b 1) = BitVec.ofNat 32 j.val) :
    Host.gather gather_S64x64_S512x16x2_S512x16_n_01_n_n_01_2_11 x idx (ix2 t b) = x (ix2 i j) := by
  refine gather_all gather_S64x64_S512x16x2_S512x16_n_01_n_n_01_2_11 (show ∀ a : Fin 2, a ∈ ([0,1] : List (Fin 2)) by decide) (show ∀ a : Fin 2, a ∈ ([0,1] : List (Fin 2)) by decide) rfl ?_ x idx _ _ ?_
  · show ∀ a : Fin 2, (![64,64] : Fin 2 → ℕ) a < 2 ^ 31
    decide
  · intro a
    match a with
    | 0 =>
      refine (congrArg idx (?_ : _ = ix3 t b 0)).trans h0
      funext e
      match e with
      | 0 => rfl
      | 1 => rfl
      | 2 => rfl
    | 1 =>
      refine (congrArg idx (?_ : _ = ix3 t b 1)).trans h1
      funext e
      match e with
      | 0 => rfl
      | 1 => rfl
      | 2 => rfl

theorem gather_em {α : Type} (x : S512x16x64.Idx → α) (idx : IVec S512x16x3 32) (t : Fin 512) (b : Fin 16) (a : Fin 512) (d : Fin 16) (k : Fin 64)
    (h0 : idx (ix3 t b 0) = BitVec.ofNat 32 a.val) (h1 : idx (ix3 t b 1) = BitVec.ofNat 32 d.val) (h2 : idx (ix3 t b 2) = BitVec.ofNat 32 k.val) :
    Host.gather gather_S512x16x64_S512x16x3_S512x16_n_012_n_n_012_2_111 x idx (ix2 t b) = x (ix3 a d k) := by
  refine gather_all gather_S512x16x64_S512x16x3_S512x16_n_012_n_n_012_2_111 (show ∀ a : Fin 3, a ∈ ([0,1,2] : List (Fin 3)) by decide) (show ∀ a : Fin 3, a ∈ ([0,1,2] : List (Fin 3)) by decide) rfl ?_ x idx _ _ ?_
  · show ∀ a : Fin 3, (![512,16,64] : Fin 3 → ℕ) a < 2 ^ 31
    decide
  · intro a
    match a with
    | 0 =>
      refine (congrArg idx (?_ : _ = ix3 t b 0)).trans h0
      funext e
      match e with
      | 0 => rfl
      | 1 => rfl
      | 2 => rfl
    | 1 =>
      refine (congrArg idx (?_ : _ = ix3 t b 1)).trans h1
      funext e
      match e with
      | 0 => rfl
      | 1 => rfl
      | 2 => rfl
    | 2 =>
      refine (congrArg idx (?_ : _ = ix3 t b 2)).trans h2
      funext e
      match e with
      | 0 => rfl
      | 1 => rfl
      | 2 => rfl

theorem gather_last {α : Type} (x : S512x16.Idx → α) (idx : IVec S16x2 32) (b : Fin 16) (a : Fin 512) (d : Fin 16)
    (h0 : idx (ix2 b 0) = BitVec.ofNat 32 a.val) (h1 : idx (ix2 b 1) = BitVec.ofNat 32 d.val) :
    Host.gather gather_S512x16_S16x2_S16_n_01_n_n_01_1_11 x idx (ix1 b) = x (ix2 a d) := by
  refine gather_all gather_S512x16_S16x2_S16_n_01_n_n_01_1_11 (show ∀ a : Fin 2, a ∈ ([0,1] : List (Fin 2)) by decide) (show ∀ a : Fin 2, a ∈ ([0,1] : List (Fin 2)) by decide) rfl ?_ x idx _ _ ?_
  · show ∀ a : Fin 2, (![512,16] : Fin 2 → ℕ) a < 2 ^ 31
    decide
  · intro a
    match a with
    | 0 =>
      refine (congrArg idx (?_ : _ = ix2 b 0)).trans h0
      funext e
      match e with
      | 0 => rfl
      | 1 => rfl
    | 1 =>
      refine (congrArg idx (?_ : _ = ix2 b 1)).trans h1
      funext e
      match e with
      | 0 => rfl
      | 1 => rfl

/-- A word that is not negative is left as it is. -/
theorem wrap_word (n : ℕ) (h : n < 2 ^ 31) (l : BitVec 32) :
    Scalar.select (IntOp.cmpi .slt (BitVec.ofNat 32 n) 0#32) (IntOp.addi (BitVec.ofNat 32 n) l) (BitVec.ofNat 32 n) = BitVec.ofNat 32 n := by
  have h1 : (BitVec.ofNat 32 n).slt 0#32 = false := by
    rw [BitVec.slt, toInt_word n h]
    simp
  simp [Scalar.select, IntOp.cmpi, h1]

end Cert.Proof.R

end
-- ==== Proof.R.Reads.lean ====
module

public import proofs.«01_k».proof.Proof.R.Gather
public import proofs.«01_k».proof.Proof.Math.Spec
public import Idealize.ShloMosaic.Lib.Pointwise

@[expose] public section

set_option maxRecDepth 16384

noncomputable section

namespace Cert.Proof.R

open Cert.ReferenceIdeal Cert.ReferenceIdeal.Gen Cert.ReferenceIdeal.Value
open Idealize.ShloMosaic Idealize.ShloMosaic.TcCoe Idealize.ShloMosaic.StableHlo
open Idealize.SL Idealize.SL.Sem
open Cert.Proof

/-! The pieces of the reference's lines, an element at a time. -/

/-- The table of classes at the word's class. -/
theorem classAt_read (x : FVec Ideal S64 .f32) (w : IVec S16 32) (b : Fin 16) (k : Fin 64) (h : w (ix1 b) = BitVec.ofNat 32 k.val) :
    classAt x w (ix1 b) = x (ix1 k) := by
  refine gather_class x _ b k ?_
  · pointwise []
    rw [h]
    exact wrap_word _ (by omega) _

theorem firstTag_read (tg : IVec S512x16 32) (b : Fin 16) : firstTag tg (ix1 b) = tg (ix2 0 b) := by
  pointwise [firstTag]

/-- The first position's score of the word's class. -/
theorem firstEm_read (em : FVec Ideal S512x16x64 .f32) (w : IVec S16 32) (b : Fin 16) (k : Fin 64) (h : w (ix1 b) = BitVec.ofNat 32 k.val) :
    firstEm em w (ix1 b) = em (ix3 0 b k) := by
  refine gather_first em _ b 0 b k ?_ ?_ ?_
  · pointwise []
    rfl
  · pointwise []
    exact wrap_word _ (by omega) _
  · pointwise []
    rw [h]
    exact wrap_word _ (by omega) _

theorem ancestor_read (c : IVec S512x16 32) (t : Fin 512) (b : Fin 16) :
    ancestor c (ix2 t b) = IntOp.minsi 511#32 (IntOp.maxsi 0#32 (IntOp.subi (c (ix2 t b)) 1#32)) := by
  pointwise [ancestor]
  rfl

/-- The class at the word's position. -/
theorem ancestorTag_read (tg a : IVec S512x16 32) (t : Fin 512) (b : Fin 16) (s : Fin 512) (h : a (ix2 t b) = BitVec.ofNat 32 s.val) :
    ancestorTag tg a (ix2 t b) = tg (ix2 s b) := by
  refine gather_tags tg _ t b s b ?_ ?_
  · pointwise []
    rw [h]
    exact wrap_word _ (by omega) _
  · pointwise []
    exact wrap_word _ (by omega) _

/-- The table of steps from the one word's class to the other's. -/
theorem moved_read (x : FVec Ideal S64x64 .f32) (p tg : IVec S512x16 32) (t : Fin 512) (b : Fin 16) (i j : Fin 64)
    (h1 : p (ix2 t b) = BitVec.ofNat 32 i.val) (h2 : tg (ix2 t b) = BitVec.ofNat 32 j.val) : moved x p tg (ix2 t b) = x (ix2 i j) := by
  refine gather_steps x _ t b i j ?_ ?_
  · pointwise []
    rw [h1]
    exact wrap_word _ (by omega) _
  · pointwise []
    rw [h2]
    exact wrap_word _ (by omega) _

theorem previousTag_read (tg : IVec S512x16 32) (t : Fin 511) (b : Fin 16) : previousTag tg (ix2 ⟨t.val + 1, by omega⟩ b) = tg (ix2 ⟨t.val, by omega⟩ b) := by
  pointwise [previousTag]
  rw [dif_neg (by omega)]
  rfl

/-- The position's score of its class. -/
theorem emAt_read (em : FVec Ideal S512x16x64 .f32) (tg : IVec S512x16 32) (t : Fin 512) (b : Fin 16) (k : Fin 64) (h : tg (ix2 t b) = BitVec.ofNat 32 k.val) :
    emAt em tg (ix2 t b) = em (ix3 t b k) := by
  refine gather_em em _ t b t b k ?_ ?_ ?_
  · pointwise []
    exact wrap_word _ (by omega) _
  · pointwise []
    exact wrap_word _ (by omega) _
  · pointwise []
    rw [h]
    exact wrap_word _ (by omega) _

/-- A mask that keeps everything keeps position 511. -/
theorem lastPosition_read (mask : IVec S512x16 1) (h : ∀ (t : Fin 512) (b : Fin 16), mask (ix2 t b) = 1#1) (b : Fin 16) :
    lastPosition mask (ix1 b) = BitVec.ofNat 32 511 := by
  have e : ∀ mask : IVec S512x16 1, lastPosition mask (ix1 b)
      = IntOp.subi (Finset.fold IntOp.addi (0#32) (fun x : Fin 512 => BitVec.setWidth 32 (mask (ix2 x b))) Finset.univ) 1#32 := fun mask => by
    pointwise [lastPosition]
  rw [e]
  simp only [h]
  decide +kernel

theorem lastTag_read (tg : IVec S512x16 32) (l : IVec S16 32) (b : Fin 16) (s : Fin 512) (h : l (ix1 b) = BitVec.ofNat 32 s.val) :
    lastTag tg l (ix1 b) = tg (ix2 s b) := by
  refine gather_last tg _ b s b ?_ ?_
  · pointwise []
    rw [h]
    exact wrap_word _ (by omega) _
  · pointwise []
    exact wrap_word _ (by omega) _

theorem stepsOf_read (p r inert cont e : FVec Ideal S512x16 .f32) (mask : IVec S512x16 1) (t : Fin 512) (b : Fin 16) :
    stepsOf p r inert cont e mask (ix2 t b) = (p (ix2 t b) * inert (ix2 t b) + r (ix2 t b) * cont (ix2 t b) + e (ix2 t b)) *
      FloatOps.uitofp FTy.f32 (mask (ix2 t b)) := by
  pointwise [stepsOf]

theorem scoreOf_read (s e : FVec Ideal S16 .f32) (z : FVec Ideal S512x16 .f32) (n : FVec Ideal S16 .f32) (b : Fin 16) :
    scoreOf s e z n (ix1 b) = s (ix1 b) + e (ix1 b) + ∑ t : Fin 511, z (ix2 ⟨1 + t.val, by omega⟩ b) + n (ix1 b) := by
  pointwise [scoreOf]

theorem alphaStart_read (st : FVec Ideal S64 .f32) (em : FVec Ideal S512x16x64 .f32) (b : Fin 16) (j : Fin 64) :
    alphaStart st em (ix2 b j) = st (ix1 j) + em (ix3 0 b j) := by
  pointwise [alphaStart]

theorem inertOfConv_read (c : IVec S512x16 32) (t : Fin 512) (b : Fin 16) :
    inertOfConv c (ix2 t b) = FloatOps.uitofp FTy.f32 (IntOp.cmpi CmpIPredicate.sgt (c (ix2 t b)) 0#32) := by
  pointwise [inertOfConv]

theorem contOfConv_read (c : IVec S512x16 32) (t : Fin 512) (b : Fin 16) :
    contOfConv c (ix2 t b) = FloatOps.uitofp FTy.f32 (IntOp.cmpi CmpIPredicate.ne (c (ix2 t b)) (BitVec.ofNat 32 t.val)) := by
  pointwise [contOfConv]

theorem convOf_read (q : IVec S512x16 32) (t : Fin 512) (b : Fin 16) : convOf q (ix2 t b) = Finset.fold IntOp.maxsi (2147483648#32)
      (fun x : Fin 512 =>
        Scalar.select
          (IntOp.andi (IntOp.cmpi CmpIPredicate.eq (q (ix2 x b)) (q (ix2 t b)))
            (IntOp.cmpi CmpIPredicate.slt (BitVec.ofNat 32 x.val) (BitVec.ofNat 32 t.val)))
          (IntOp.addi (BitVec.ofNat 32 x.val) 1#32) 0#32)
      Finset.univ := by
  pointwise [convOf]
  rfl

theorem lastScores_read (alpha : FVec Ideal S16x64 .f32) (en : FVec Ideal S64 .f32) (b : Fin 16) (j : Fin 64) :
    lastScores alpha en (ix2 b j) = alpha (ix2 b j) + en (ix1 j) := by
  pointwise [lastScores]

theorem topLast_read (s : FVec Ideal S16x64 .f32) (b : Fin 16) :
    topLast s (ix2 b 0) = Finset.fold max (Ideal.ofBits FTy.f32 0xFF800000#32) (fun j : Fin 64 => s (ix2 b j)) Finset.univ := by
  pointwise [topLast]

theorem resultOf_read (s : FVec Ideal S16x64 .f32) (num : FVec Ideal S16 .f32) (i : S_.Idx) :
    resultOf s num i = ∑ b : Fin 16, (num (ix1 b) - (topLast s (ix2 b 0) + Ideal.log (∑ j : Fin 64, Ideal.exp (s (ix2 b j) - topLast s (ix2 b 0))))) := by
  pointwise [resultOf]

end Cert.Proof.R

end
-- ==== Proof.R.Loop.lean ====
module

public import proofs.«01_k».proof.Proof.R.Frame
public import proofs.«01_k».proof.Proof.Math.Spec
public import Idealize.ShloMosaic.Lib.Pointwise

@[expose] public section

set_option maxRecDepth 16384

noncomputable section

namespace Cert.Proof.R

open Cert.ReferenceIdeal Cert.ReferenceIdeal.Gen Cert.ReferenceIdeal.Value
open Idealize.ShloMosaic Idealize.ShloMosaic.TcCoe Idealize.ShloMosaic.StableHlo
open Idealize.SL Idealize.SL.Sem
open Cert.Proof

/-! One trip of the reference's loop, over the real numbers. -/

/-- Where the trip's row begins in a table of two axes. -/
def starts2 (w : IVec S_ 32) : Fin 2 → ℤ :=
  (fun k => (((![select (cmpi .slt w (constantI S_ 32 0#32)) (addi w (constantI S_ 32 512#32)) w, select (cmpi .slt (constantI S_ 32 0#32) (constantI S_ 32 0#32)) (addi (constantI S_ 32 0#32) (constantI S_ 32 16#32)) (constantI S_ 32 0#32)] : Fin 2 → (⟨S_, .i32⟩ : BufTy).Contents (Elt Ideal))) k (Shape.Idx.first h_S_)).toInt)

/-- Where the trip's row begins in a table of three axes. -/
def starts3 (w : IVec S_ 32) : Fin 3 → ℤ :=
  (fun k => (((![select (cmpi .slt w (constantI S_ 32 0#32)) (addi w (constantI S_ 32 512#32)) w, select (cmpi .slt (constantI S_ 32 0#32) (constantI S_ 32 0#32)) (addi (constantI S_ 32 0#32) (constantI S_ 32 16#32)) (constantI S_ 32 0#32), select (cmpi .slt (constantI S_ 32 0#32) (constantI S_ 32 0#32)) (addi (constantI S_ 32 0#32) (constantI S_ 32 64#32)) (constantI S_ 32 0#32)] : Fin 3 → (⟨S_, .i32⟩ : BufTy).Contents (Elt Ideal))) k (Shape.Idx.first h_S_)).toInt)

/-- The trip's row of a table of two axes. -/
def row2 {α : Type} (x : S512x16.Idx → α) (w : IVec S_ 32) : S16.Idx → α :=
  shapeCast S16 (Host.dynamicSlice S1x16 x (starts2 w) sliceFits_S512x16_S1x16) shapeCasts_S1x16_S16

/-- The trip's row of a table of three axes. -/
def row3 {α : Type} (x : S512x16x64.Idx → α) (w : IVec S_ 32) : S16x64.Idx → α :=
  shapeCast S16x64 (Host.dynamicSlice S1x16x64 x (starts3 w) sliceFits_S512x16x64_S1x16x64) shapeCasts_S1x16x64_S16x64

/-- The scores of all steps into every class, from the trip's rows. -/
def scores (self other : FVec Ideal S64x64 .f32) (inert cont : FVec Ideal S16 .f32) (e : FVec Ideal S16x64 .f32)
    (alpha : FVec Ideal S16x64 .f32) : FVec Ideal S16x64x64 .f32 :=
  addf (addf (broadcastInDim S16x64x64 ![0, 1, 2] bcast_S16x64x1_S16x64x64_0_1_2 (broadcastInDim S16x64x1 ![0, 1] bcast_S16x64_S16x64x1_0_1 alpha)) (addf (mulf (broadcastInDim S16x64x64 ![0, 1, 2] bcast_S1x64x64_S16x64x64_0_1_2 (broadcastInDim S1x64x64 ![1, 2] bcast_S64x64_S1x64x64_1_2 self)) (broadcastInDim S16x64x64 ![0, 1, 2] bcast_S16x1x1_S16x64x64_0_1_2 (broadcastInDim S16x1x1 ![0] bcast_S16_S16x1x1_0 inert))) (mulf (broadcastInDim S16x64x64 ![0, 1, 2] bcast_S1x64x64_S16x64x64_0_1_2 (broadcastInDim S1x64x64 ![1, 2] bcast_S64x64_S1x64x64_1_2 other)) (broadcastInDim S16x64x64 ![0, 1, 2] bcast_S16x1x1_S16x64x64_0_1_2 (broadcastInDim S16x1x1 ![0] bcast_S16_S16x1x1_0 cont))))) (broadcastInDim S16x64x64 ![0, 1, 2] bcast_S16x1x64_S16x64x64_0_1_2 (broadcastInDim S16x1x64 ![0, 2] bcast_S16x64_S16x1x64_0_2 e))

/-- The greatest score into every class. -/
def topOf (s : FVec Ideal S16x64x64 .f32) : FVec Ideal S16x1x64 .f32 :=
  broadcastInDim S16x1x64 ![0, 2] bcast_S16x64_S16x1x64_0_2 (Host.reduce FloatOps.maximumf s (constant S_ .f32 0xFF800000#32) reducesTo_S16x64x64_S16x64_d1 h_S_)

/-- The classes' values after a trip. -/
def after (mask : IVec S16 1) (s : FVec Ideal S16x64x64 .f32) (alpha : FVec Ideal S16x64 .f32) : FVec Ideal S16x64 .f32 :=
  id (select (broadcastInDim S16x64 ![0, 1] bcast_S16x1_S16x64_0_1 (broadcastInDim S16x1 ![0] bcast_S16_S16x1_0 mask)) (addf (shapeCast S16x64 (topOf s) shapeCasts_S16x1x64_S16x64) (Host.log (Host.reduceAdd (Host.exp (subf s (broadcastInDim S16x64x64 ![0, 1, 2] bcast_S16x1x64_S16x64x64_0_1_2 (topOf s)))) (constant S_ .f32 0x00000000#32) reducesTo_S16x64x64_S16x64_d1 h_S_))) alpha)

/-- One trip is these three. -/
theorem trip_eq (V : Valuation τ sig (Elt Ideal)) : step_main_v168_8 V
    = after (row2 (V (Proc.devRef .tc main_v168_5)) (V (Proc.devRef .tc main_v168_7)))
      (scores (V (Proc.devRef .tc main_v168_0)) (V (Proc.devRef .tc main_v168_2)) (row2 (V (Proc.devRef .tc main_v168_1)) (V (Proc.devRef .tc main_v168_7)))
        (row2 (V (Proc.devRef .tc main_v168_3)) (V (Proc.devRef .tc main_v168_7)))
        (row3 (V (Proc.devRef .tc main_v168_4)) (V (Proc.devRef .tc main_v168_7))) (V (Proc.devRef .tc main_v168_8))) (V (Proc.devRef .tc main_v168_8)) := rfl

/-- The row begins at the word's position. -/
theorem starts2_eq (t : Fin 512) : starts2 (fun _ => BitVec.ofNat 32 t.val) = fun k => ((![t.val, 0] : Fin 2 → ℕ) k : ℤ) := by
  have h : ∀ t : Fin 512, (Scalar.select (IntOp.cmpi .slt (BitVec.ofNat 32 t.val) 0#32) (IntOp.addi (BitVec.ofNat 32 t.val) 512#32) (BitVec.ofNat 32 t.val)).toInt = (t.val : ℤ) := by
    decide +kernel
  funext k
  match k with
  | 0 => exact h t
  | 1 => rfl

theorem starts3_eq (t : Fin 512) : starts3 (fun _ => BitVec.ofNat 32 t.val) = fun k => ((![t.val, 0, 0] : Fin 3 → ℕ) k : ℤ) := by
  have h : ∀ t : Fin 512, (Scalar.select (IntOp.cmpi .slt (BitVec.ofNat 32 t.val) 0#32) (IntOp.addi (BitVec.ofNat 32 t.val) 512#32) (BitVec.ofNat 32 t.val)).toInt = (t.val : ℤ) := by
    decide +kernel
  funext k
  match k with
  | 0 => exact h t
  | 1 => rfl
  | 2 => rfl

/-- The trip's row is the table's at the word's position. -/
theorem row2_read {α : Type} (x : S512x16.Idx → α) (t : Fin 512) (b : Fin 16) : row2 x (fun _ => BitVec.ofNat 32 t.val) (ix1 b) = x (ix2 t b) := by
  have h : ∀ k : Fin 2, Host.clampedStart S512x16 S1x16 rfl (fun k => ((![t.val, 0] : Fin 2 → ℕ) k : ℤ)) k = (![t.val, 0] : Fin 2 → ℕ) k := by
    intro k
    apply Host.clampedStart_of_le
    · rfl
    match k with
    | 0 => show t.val + 1 ≤ 512; omega
    | 1 => show 0 + 16 ≤ 16; omega
  have hr : ∀ y : S1x16.Idx → α, shapeCast S16 y shapeCasts_S1x16_S16 (ix1 b) = y (ix2 0 b) := fun y => by pointwise []
  rw [row2, starts2_eq, hr, Host.dynamicSlice_apply]
  congr 1
  funext a
  match a with
  | 0 => exact Fin.ext ((congrArg (· + 0) (h 0)).trans rfl)
  | 1 => exact Fin.ext ((congrArg (· + b.val) (h 1)).trans (Nat.zero_add _))

theorem row3_read {α : Type} (x : S512x16x64.Idx → α) (t : Fin 512) (b : Fin 16) (j : Fin 64) :
    row3 x (fun _ => BitVec.ofNat 32 t.val) (ix2 b j) = x (ix3 t b j) := by
  have h : ∀ k : Fin 3, Host.clampedStart S512x16x64 S1x16x64 rfl (fun k => ((![t.val, 0, 0] : Fin 3 → ℕ) k : ℤ)) k = (![t.val, 0, 0] : Fin 3 → ℕ) k := by
    intro k
    apply Host.clampedStart_of_le
    · rfl
    match k with
    | 0 => show t.val + 1 ≤ 512; omega
    | 1 => show 0 + 16 ≤ 16; omega
    | 2 => show 0 + 64 ≤ 64; omega
  have hr : ∀ y : S1x16x64.Idx → α, shapeCast S16x64 y shapeCasts_S1x16x64_S16x64 (ix2 b j) = y (ix3 0 b j) := fun y => by pointwise []
  rw [row3, starts3_eq, hr, Host.dynamicSlice_apply]
  congr 1
  funext a
  match a with
  | 0 => exact Fin.ext ((congrArg (· + 0) (h 0)).trans rfl)
  | 1 => exact Fin.ext ((congrArg (· + b.val) (h 1)).trans (Nat.zero_add _))
  | 2 => exact Fin.ext ((congrArg (· + j.val) (h 2)).trans (Nat.zero_add _))

theorem scores_read (self other : FVec Ideal S64x64 .f32) (inert cont : FVec Ideal S16 .f32) (e : FVec Ideal S16x64 .f32)
    (alpha : FVec Ideal S16x64 .f32) (b : Fin 16) (i j : Fin 64) :
    scores self other inert cont e alpha (ix3 b i j)
      = alpha (ix2 b i) + (self (ix2 i j) * inert (ix1 b) + other (ix2 i j) * cont (ix1 b)) + e (ix2 b j) := by
  pointwise [scores]

theorem topOf_read (s : FVec Ideal S16x64x64 .f32) (b : Fin 16) (j : Fin 64) :
    topOf s (ix3 b 0 j) = Finset.fold max (Ideal.ofBits FTy.f32 0xFF800000#32) (fun i : Fin 64 => s (ix3 b i j)) Finset.univ := by
  pointwise [topOf]

theorem after_read (mask : IVec S16 1) (s : FVec Ideal S16x64x64 .f32) (alpha : FVec Ideal S16x64 .f32) (b : Fin 16) (j : Fin 64) :
   after mask s alpha (ix2 b j) = Scalar.select (mask (ix1 b))
     (topOf s (ix3 b 0 j) + Ideal.log (∑ i : Fin 64, Ideal.exp (s (ix3 b i j) - topOf s (ix3 b 0 j)))) (alpha (ix2 b j)) := by
  rw [after, id]
  pointwise []

/-! The logarithm of a sum of exponentials, shifted by the greatest term. -/

/-- The word of minus infinity. -/
theorem ofBits_neg_inf : Ideal.ofBits .f32 0xFF800000#32 = (⊥ : EReal) := by
  simp [Ideal.ofBits, Ideal.ieee]

/-- The greatest of 64 reals is a real. -/
theorem fold_max_real (s : Fin 64 → ℝ) : ∃ m : ℝ, Finset.univ.fold max (Ideal.ofBits FTy.f32 0xFF800000#32) (fun i : Fin 64 => ((s i : ℝ) : EReal)) = (m : EReal) := by
  rw [ofBits_neg_inf]
  have h : Finset.univ.fold max (⊥ : EReal) (fun i : Fin 64 => ((s i : ℝ) : EReal)) = Finset.univ.sup fun i : Fin 64 => ((s i : ℝ) : EReal) := by
    rw [Finset.sup_def, Finset.fold, Multiset.sup]
  obtain ⟨k, _, hk⟩ := Finset.exists_mem_eq_sup Finset.univ ⟨0, Finset.mem_univ _⟩ fun i : Fin 64 => ((s i : ℝ) : EReal)
  exact ⟨s k, h.trans hk⟩

/-- A sum of reals, read as an extended real. -/
theorem coe_sum {ι : Type} (A : Finset ι) (f : ι → ℝ) : ∑ i ∈ A, ((f i : ℝ) : EReal) = ((∑ i ∈ A, f i : ℝ) : EReal) := by
  classical
  induction A using Finset.induction_on with
  | empty => simp
  | insert a A ha ih => rw [Finset.sum_insert ha, Finset.sum_insert ha, ih, EReal.coe_add]

/-- The shifted logarithm of a sum of exponentials is the plain one. -/
theorem shifted_log (s : Fin 64 → ℝ) (m : ℝ) :
    (m : EReal) + Ideal.log (∑ i : Fin 64, Ideal.exp (((s i : ℝ) : EReal) - (m : EReal))) = ((Real.log (∑ i, Real.exp (s i)) : ℝ) : EReal) := by
  have h1 : ∀ i : Fin 64, Ideal.exp (((s i : ℝ) : EReal) - (m : EReal)) = ((Real.exp (s i - m) : ℝ) : EReal) := fun i => by
    rw [← EReal.coe_sub, Ideal.exp_coe]
  have hpos : (0 : ℝ) < ∑ i : Fin 64, Real.exp (s i - m) := Finset.sum_pos (fun i _ => Real.exp_pos _) ⟨0, Finset.mem_univ _⟩
  rw [Finset.sum_congr rfl fun i _ => h1 i, coe_sum, Ideal.log_coe, if_neg (not_le.mpr hpos), ← EReal.coe_add]
  congr 1
  have h2 : ∑ i : Fin 64, Real.exp (s i) = Real.exp m * ∑ i : Fin 64, Real.exp (s i - m) := by
    rw [Finset.mul_sum]
    refine Finset.sum_congr rfl fun i _ => ?_
    rw [← Real.exp_add]
    congr 1
    ring
  rw [h2, Real.log_mul (Real.exp_ne_zero _) hpos.ne', Real.log_exp]

/-! The carried buffers at their shapes. -/

variable (V : Valuation τ sig (Elt Ideal))

def selfOf : FVec Ideal S64x64 .f32 := V (Proc.devRef .tc main_v168_0)
def inertOf : FVec Ideal S512x16 .f32 := V (Proc.devRef .tc main_v168_1)
def otherOf : FVec Ideal S64x64 .f32 := V (Proc.devRef .tc main_v168_2)
def contOf : FVec Ideal S512x16 .f32 := V (Proc.devRef .tc main_v168_3)
def emOf : FVec Ideal S512x16x64 .f32 := V (Proc.devRef .tc main_v168_4)
def maskOf : IVec S512x16 1 := V (Proc.devRef .tc main_v168_5)
def ctrOf : IVec S_ 32 := V (Proc.devRef .tc main_v168_7)
def alphaOf : FVec Ideal S16x64 .f32 := V (Proc.devRef .tc main_v168_8)

variable (M : ℕ → Fin 16 → Fin 64 → ℝ) (Q : ℕ → Fin 16 → Bool) (x : Fin 64 → ℝ) (X Y : Fin 64 → Fin 64 → ℝ)

/-- The carried buffers when position `n` has been taken in. -/
structure Holding (n : ℕ) : Prop where
  self : ∀ i j : Fin 64, selfOf V (ix2 i j) = ((X i j : ℝ) : EReal)
  other : ∀ i j : Fin 64, otherOf V (ix2 i j) = ((Y i j : ℝ) : EReal)
  inert : ∀ (t : Fin 512) (b : Fin 16), inertOf V (ix2 t b) = ((Math.inert (fun t => Q t b) t.val : ℝ) : EReal)
  cont : ∀ (t : Fin 512) (b : Fin 16), contOf V (ix2 t b) = ((Math.cont (fun t => Q t b) t.val : ℝ) : EReal)
  em : ∀ (t : Fin 512) (b : Fin 16) (k : Fin 64), emOf V (ix3 t b k) = ((M t.val b k : ℝ) : EReal)
  mask : ∀ (t : Fin 512) (b : Fin 16), maskOf V (ix2 t b) = 1#1
  ctr : ctrOf V = fun _ => BitVec.ofNat 32 (n + 1)
  alpha : ∀ (b : Fin 16) (j : Fin 64), alphaOf V (ix2 b j) = ((Math.alpha (fun t => M t b) (fun t => Q t b) x X Y n j : ℝ) : EReal)

variable {V M Q x X Y}

/-- One trip takes in the next position. -/
theorem Holding.step {n : ℕ} (h : Holding V M Q x X Y n) (hn : n < 511) : Holding (STEP V) M Q x X Y (n + 1) where
  self i j := (congrFun (STEP_main_v168_0 V) (ix2 i j)).trans (h.self i j)
  other i j := (congrFun (STEP_main_v168_2 V) (ix2 i j)).trans (h.other i j)
  inert t b := (congrFun (STEP_main_v168_1 V) (ix2 t b)).trans (h.inert t b)
  cont t b := (congrFun (STEP_main_v168_3 V) (ix2 t b)).trans (h.cont t b)
  em t b k := (congrFun (STEP_main_v168_4 V) (ix3 t b k)).trans (h.em t b k)
  mask t b := (congrFun (STEP_main_v168_5 V) (ix2 t b)).trans (h.mask t b)
  ctr := by
    have h1 : ctrOf (STEP V) = addi (ctrOf V) (constantI S_ 32 1#32) := STEP_main_v168_7 V
    rw [h1, h.ctr]
    funext _
    show BitVec.ofNat 32 (n + 1) + 1#32 = BitVec.ofNat 32 (n + 1 + 1)
    rw [← BitVec.ofNat_add]
  alpha b j := by
    have h1 : alphaOf (STEP V) = after (row2 (maskOf V) (ctrOf V)) (scores (selfOf V) (otherOf V) (row2 (inertOf V) (ctrOf V)) (row2 (contOf V) (ctrOf V))
        (row3 (emOf V) (ctrOf V)) (alphaOf V)) (alphaOf V) := (STEP_main_v168_8 V).trans (trip_eq V)
    let t : Fin 512 := ⟨n + 1, by omega⟩
    have hw : ctrOf V = fun _ => BitVec.ofNat 32 t.val := h.ctr
    have hs : ∀ i : Fin 64, scores (selfOf V) (otherOf V) (row2 (inertOf V) (ctrOf V)) (row2 (contOf V) (ctrOf V)) (row3 (emOf V) (ctrOf V)) (alphaOf V) (ix3 b i j)
        = ((Math.alpha (fun t => M t b) (fun t => Q t b) x X Y n i + Math.trans (fun t => Q t b) X Y (n + 1) i j + M (n + 1) b j : ℝ) : EReal) := fun i => by
      rw [scores_read, hw, row2_read, row2_read, row3_read, h.self, h.other, h.inert, h.cont, h.em, h.alpha, Math.trans, EReal.coe_add, EReal.coe_add, EReal.coe_add,
        EReal.coe_mul, EReal.coe_mul]
    rw [h1, after_read, topOf_read]
    simp only [hs]
    obtain ⟨m, hm⟩ := fold_max_real fun i : Fin 64 => Math.alpha (fun t => M t b) (fun t => Q t b) x X Y n i + Math.trans (fun t => Q t b) X Y (n + 1) i j + M (n + 1) b j
    rw [hm, shifted_log, hw, row2_read, h.mask, Math.alpha_succ]
    rfl

/-- All trips take in all positions. -/
theorem Holding.all (h : Holding V M Q x X Y 0) : ∀ n, n ≤ 511 → Holding (STEP^[n] V) M Q x X Y n
  | 0, _ => h
  | n + 1, hn => by
    rw [Function.iterate_succ_apply']
    exact (Holding.all h n (by omega)).step (by omega)

end Cert.Proof.R

end
-- ==== Proof.R.Value.lean ====
module

public import proofs.«01_k».proof.Proof.R.Reads
public import proofs.«01_k».proof.Proof.R.Loop
public import Idealize.ShloMosaic.Lib.Pointwise

@[expose] public section

set_option maxRecDepth 16384

noncomputable section

namespace Cert.Proof.R

open Cert.ReferenceIdeal Cert.ReferenceIdeal.Gen Cert.ReferenceIdeal.Value
open Idealize.ShloMosaic Idealize.ShloMosaic.TcCoe Idealize.ShloMosaic.StableHlo
open Idealize.SL Idealize.SL.Sem
open Cert.Proof

/-! The reference's score and result, as reals. -/

/-- The greater of two small naturals' words is the greater's word. -/
theorem maxsi_word (a b : ℕ) (ha : a < 2 ^ 31) (hb : b < 2 ^ 31) :
    IntOp.maxsi (BitVec.ofNat 32 a) (BitVec.ofNat 32 b) = BitVec.ofNat 32 (max a b) := by
  have h : (BitVec.ofNat 32 b).slt (BitVec.ofNat 32 a) = decide (b < a) := by
    rw [BitVec.slt, toInt_word b hb, toInt_word a ha]
    simp
  unfold IntOp.maxsi
  rw [h]
  by_cases hab : b < a
  · rw [if_pos (decide_eq_true hab), max_eq_left hab.le]
  · rw [if_neg (by simpa using hab), max_eq_right (by omega)]

/-- The greatest of small naturals' words is the greatest's word. -/
theorem fold_maxsi (g : Fin 512 → ℕ) (hg : ∀ x, g x < 2 ^ 31) :
    Finset.fold IntOp.maxsi (2147483648#32) (fun x => BitVec.ofNat 32 (g x)) Finset.univ = BitVec.ofNat 32 (Finset.univ.sup g) := by
  have h : ∀ A : Finset (Fin 512), Finset.fold IntOp.maxsi (2147483648#32) (fun x => BitVec.ofNat 32 (g x)) A
      = if A = ∅ then 2147483648#32 else BitVec.ofNat 32 (A.sup g) := by
    classical
    intro A
    induction A using Finset.induction_on with
    | empty => rfl
    | insert a A ha ih =>
      rw [Finset.fold_insert ha, ih, if_neg (Finset.insert_ne_empty a A), Finset.sup_insert]
      by_cases hA : A = ∅
      · rw [if_pos hA, hA, Finset.sup_empty]
        have h1 : (2147483648#32 : BitVec 32).slt (BitVec.ofNat 32 (g a)) = true := by
          rw [BitVec.slt, toInt_word _ (hg a)]
          have h2 : (2147483648#32 : BitVec 32).toInt = -2147483648 := by decide
          rw [h2]
          exact decide_eq_true (by omega)
        unfold IntOp.maxsi
        rw [if_pos h1]
        show BitVec.ofNat 32 (g a) = BitVec.ofNat 32 (max (g a) 0)
        rw [Nat.max_zero]
      · rw [if_neg hA, maxsi_word _ _ (hg a) ((Finset.sup_lt_iff (by decide)).mpr fun x _ => hg x)]
  rw [h, if_neg (Finset.univ_nonempty.ne_empty)]

variable {em : FVec Ideal S512x16x64 .f32} {tg q : IVec S512x16 32} {mask : IVec S512x16 1} {st en : FVec Ideal S64 .f32} {sT oT : FVec Ideal S64x64 .f32}
variable {M : ℕ → Fin 16 → Fin 64 → ℝ} {G : ℕ → Fin 16 → Fin 64} {Q : ℕ → Fin 16 → Bool} {x y : Fin 64 → ℝ} {X Y : Fin 64 → Fin 64 → ℝ}

/-- The arguments hold reals, classes, two speakers and a mask that keeps everything. -/
structure Given (em : FVec Ideal S512x16x64 .f32) (tg q : IVec S512x16 32) (mask : IVec S512x16 1) (st en : FVec Ideal S64 .f32) (sT oT : FVec Ideal S64x64 .f32)
    (M : ℕ → Fin 16 → Fin 64 → ℝ) (G : ℕ → Fin 16 → Fin 64) (Q : ℕ → Fin 16 → Bool) (x y : Fin 64 → ℝ) (X Y : Fin 64 → Fin 64 → ℝ) : Prop where
  em : ∀ (t : Fin 512) (b : Fin 16) (k : Fin 64), em (ix3 t b k) = ((M t.val b k : ℝ) : EReal)
  tg : ∀ (t : Fin 512) (b : Fin 16), tg (ix2 t b) = BitVec.ofNat 32 (G t.val b).val
  q : ∀ (t : Fin 512) (b : Fin 16), q (ix2 t b) = if Q t.val b then 1#32 else 0#32
  mask : ∀ (t : Fin 512) (b : Fin 16), mask (ix2 t b) = 1#1
  st : ∀ j : Fin 64, st (ix1 j) = ((x j : ℝ) : EReal)
  en : ∀ j : Fin 64, en (ix1 j) = ((y j : ℝ) : EReal)
  sT : ∀ i j : Fin 64, sT (ix2 i j) = ((X i j : ℝ) : EReal)
  oT : ∀ i j : Fin 64, oT (ix2 i j) = ((Y i j : ℝ) : EReal)

/-- The program's count is `conv`. -/
theorem convOf_value (hq : ∀ (t : Fin 512) (b : Fin 16), q (ix2 t b) = if Q t.val b then 1#32 else 0#32) (t : Fin 512) (b : Fin 16) :
    convOf q (ix2 t b) = BitVec.ofNat 32 (Math.conv (fun t => Q t b) t.val) := by
  have h1 : ∀ s : Fin 512, Scalar.select
        (IntOp.andi (IntOp.cmpi CmpIPredicate.eq (q (ix2 s b)) (q (ix2 t b))) (IntOp.cmpi CmpIPredicate.slt (BitVec.ofNat 32 s.val) (BitVec.ofNat 32 t.val)))
        (IntOp.addi (BitVec.ofNat 32 s.val) 1#32) 0#32
      = BitVec.ofNat 32 (if Q s.val b = Q t.val b ∧ s.val < t.val then s.val + 1 else 0) := fun s => by
    have h2 : (BitVec.ofNat 32 s.val).slt (BitVec.ofNat 32 t.val) = decide (s.val < t.val) := by
      rw [BitVec.slt, toInt_word _ (by omega), toInt_word _ (by omega)]
      simp
    have h3 : (q (ix2 s b) == q (ix2 t b)) = decide (Q s.val b = Q t.val b) := by
      rw [hq, hq]
      cases Q s.val b <;> cases Q t.val b <;> decide
    have h4 : IntOp.addi (BitVec.ofNat 32 s.val) 1#32 = BitVec.ofNat 32 (s.val + 1) := by
      show BitVec.ofNat 32 s.val + 1#32 = _
      rw [← BitVec.ofNat_add]
    have h5 : IntOp.cmpi CmpIPredicate.eq (q (ix2 s b)) (q (ix2 t b)) = BitVec.ofBool (decide (Q s.val b = Q t.val b)) := congrArg BitVec.ofBool h3
    have h6 : IntOp.cmpi CmpIPredicate.slt (BitVec.ofNat 32 s.val) (BitVec.ofNat 32 t.val) = BitVec.ofBool (decide (s.val < t.val)) := congrArg BitVec.ofBool h2
    rw [h4, h5, h6]
    by_cases h7 : Q s.val b = Q t.val b
    · by_cases h8 : s.val < t.val
      · rw [decide_eq_true h7, decide_eq_true h8, if_pos ⟨h7, h8⟩]
        rfl
      · rw [decide_eq_true h7, decide_eq_false h8, if_neg fun h => h8 h.2]
        rfl
    · rw [decide_eq_false h7, if_neg fun h => h7 h.1]
      by_cases h8 : s.val < t.val
      · rw [decide_eq_true h8]
        rfl
      · rw [decide_eq_false h8]
        rfl
  rw [convOf_read]
  simp only [h1]
  rw [fold_maxsi _ fun s => by split <;> omega]
  congr 1
  refine le_antisymm (Finset.sup_le fun s _ => ?_) ?_
  · split
    · rename_i h
      exact Nat.le_findGreatest (P := fun n => 0 < n ∧ Q (n - 1) b = Q t.val b) h.2 ⟨Nat.succ_pos _, h.1⟩
    · exact Nat.zero_le _
  · by_cases h0 : 0 < Math.conv (fun t => Q t b) t.val
    · have h2 := Math.conv_le (fun t => Q t b) t.val
      have h3 := Math.conv_same (fun t => Q t b) t.val h0
      have h4 : Math.conv (fun t => Q t b) t.val - 1 < 512 := by omega
      have h5 := Finset.le_sup (s := Finset.univ) (f := fun s : Fin 512 => if Q s.val b = Q t.val b ∧ s.val < t.val then s.val + 1 else 0)
        (Finset.mem_univ ⟨Math.conv (fun t => Q t b) t.val - 1, h4⟩)
      have h6 : Math.conv (fun t => Q t b) t.val - 1 < t.val := by omega
      simp only [h3, h6, and_self, if_true] at h5
      omega
    · omega

/-- A flag's float is zero or one. -/
theorem flag_value (p : Prop) [Decidable p] : (FloatOps.uitofp FTy.f32 (BitVec.ofBool (decide p)) : Ideal .f32) = (((if p then 1 else 0 : ℝ)) : EReal) := by
  by_cases h : p
  · rw [decide_eq_true h, if_pos h]
    show (((1#1 : BitVec 1).toNat : ℝ) : EReal) = _
    simp
  · rw [decide_eq_false h, if_neg h]
    show (((0#1 : BitVec 1).toNat : ℝ) : EReal) = _
    simp

theorem inert_value (hq : ∀ (t : Fin 512) (b : Fin 16), q (ix2 t b) = if Q t.val b then 1#32 else 0#32) (t : Fin 512) (b : Fin 16) :
    inertOfConv (convOf q) (ix2 t b) = ((Math.inert (fun t => Q t b) t.val : ℝ) : EReal) := by
  have h2 := Math.conv_le (fun t => Q t b) t.val
  have h1 : IntOp.cmpi CmpIPredicate.sgt (BitVec.ofNat 32 (Math.conv (fun t => Q t b) t.val)) 0#32
      = BitVec.ofBool (decide (0 < Math.conv (fun t => Q t b) t.val)) := by
    show BitVec.ofBool ((0#32 : BitVec 32).slt _) = _
    rw [BitVec.slt, toInt_word (Math.conv (fun t => Q t b) t.val) (by omega)]
    simp
  rw [inertOfConv_read, convOf_value hq, h1]
  exact flag_value _

theorem cont_value (hq : ∀ (t : Fin 512) (b : Fin 16), q (ix2 t b) = if Q t.val b then 1#32 else 0#32) (t : Fin 512) (b : Fin 16) :
    contOfConv (convOf q) (ix2 t b) = ((Math.cont (fun t => Q t b) t.val : ℝ) : EReal) := by
  have h2 := Math.conv_le (fun t => Q t b) t.val
  have h1 : IntOp.cmpi CmpIPredicate.ne (BitVec.ofNat 32 (Math.conv (fun t => Q t b) t.val)) (BitVec.ofNat 32 t.val)
      = BitVec.ofBool (decide (Math.conv (fun t => Q t b) t.val ≠ t.val)) := by
    show BitVec.ofBool (_ != _) = _
    congr 1
    have h3 : BitVec.ofNat 32 (Math.conv (fun t => Q t b) t.val) = BitVec.ofNat 32 t.val ↔ Math.conv (fun t => Q t b) t.val = t.val :=
      ⟨fun h => by
        have h4 := congrArg BitVec.toInt h
        rw [toInt_word _ (by omega), toInt_word _ (by omega)] at h4
        omega, fun h => by rw [h]⟩
    by_cases h5 : Math.conv (fun t => Q t b) t.val = t.val
    · simp [h5]
    · simp [h5, h3]
  rw [contOfConv_read, convOf_value hq, h1]
  exact flag_value _

/-- The position the count points at. -/
theorem ancestor_value (hq : ∀ (t : Fin 512) (b : Fin 16), q (ix2 t b) = if Q t.val b then 1#32 else 0#32) (t : Fin 512) (b : Fin 16) :
    ancestor (convOf q) (ix2 t b) = BitVec.ofNat 32 (Math.conv (fun t => Q t b) t.val - 1) := by
  have h2 := Math.conv_le (fun t => Q t b) t.val
  have h : ∀ n : Fin 512, IntOp.minsi 511#32 (IntOp.maxsi 0#32 (IntOp.subi (BitVec.ofNat 32 n.val) 1#32)) = BitVec.ofNat 32 (n.val - 1) := by
    decide +kernel
  rw [ancestor_read, convOf_value hq]
  exact h ⟨Math.conv (fun t => Q t b) t.val, by omega⟩

/-- The program's score is the score. -/
theorem score_value (h : Given em tg q mask st en sT oT M G Q x y X Y) (b : Fin 16) :
    scoreFrom em tg q mask st en sT oT (ix1 b)
      = ((Math.score (fun t => M t b) (fun t => Q t b) x y X Y (fun t => G t b) : ℝ) : EReal) := by
  have hf : firstTag tg (ix1 b) = BitVec.ofNat 32 (G 0 b).val := (firstTag_read tg b).trans (h.tg 0 b)
  have hl : lastTag tg (lastPosition mask) (ix1 b) = BitVec.ofNat 32 (G 511 b).val :=
    (lastTag_read tg (lastPosition mask) b ⟨511, by omega⟩ (lastPosition_read mask h.mask b)).trans (h.tg ⟨511, by omega⟩ b)
  have hone : (FloatOps.uitofp FTy.f32 (1#1 : BitVec 1) : Ideal .f32) = ((1 : ℝ) : EReal) := (flag_value True).trans (by rw [if_pos trivial])
  have hz : ∀ t : Fin 511, stepsOf (moved sT (ancestorTag tg (ancestor (convOf q))) tg) (moved oT (previousTag tg) tg) (inertOfConv (convOf q)) (contOfConv (convOf q))
        (emAt em tg) mask (ix2 ⟨1 + t.val, by omega⟩ b)
      = ((X (G (Math.conv (fun t => Q t b) (t.val + 1) - 1) b) (G (t.val + 1) b) * Math.inert (fun t => Q t b) (t.val + 1)
        + Y (G t.val b) (G (t.val + 1) b) * Math.cont (fun t => Q t b) (t.val + 1) + M (t.val + 1) b (G (t.val + 1) b) : ℝ) : EReal) := fun t => by
    have ht : (⟨1 + t.val, by omega⟩ : Fin 512) = ⟨t.val + 1, by omega⟩ := Fin.ext (Nat.add_comm _ _)
    have hc := Math.conv_le (fun t => Q t b) (t.val + 1)
    have h1 : ancestorTag tg (ancestor (convOf q)) (ix2 ⟨t.val + 1, by omega⟩ b) = BitVec.ofNat 32 (G (Math.conv (fun t => Q t b) (t.val + 1) - 1) b).val :=
      (ancestorTag_read tg _ _ b ⟨Math.conv (fun t => Q t b) (t.val + 1) - 1, by omega⟩ (ancestor_value h.q ⟨t.val + 1, by omega⟩ b)).trans (h.tg _ b)
    have h2 : previousTag tg (ix2 ⟨t.val + 1, by omega⟩ b) = BitVec.ofNat 32 (G t.val b).val := (previousTag_read tg t b).trans (h.tg _ b)
    have h3 : tg (ix2 ⟨t.val + 1, by omega⟩ b) = BitVec.ofNat 32 (G (t.val + 1) b).val := h.tg _ b
    rw [ht, stepsOf_read, moved_read sT _ tg _ b _ _ h1 h3, moved_read oT _ tg _ b _ _ h2 h3, emAt_read em tg _ b _ h3, inert_value h.q, cont_value h.q,
      h.mask, hone, h.sT, h.oT, h.em, ← EReal.coe_mul, ← EReal.coe_mul, ← EReal.coe_add, ← EReal.coe_add, ← EReal.coe_mul, mul_one]
  rw [scoreFrom, scoreOf_read, classAt_read st _ b _ hf, firstEm_read em _ b _ hf, classAt_read en _ b _ hl, Finset.sum_congr rfl fun t _ => hz t, coe_sum,
    h.st, h.en, h.em, ← EReal.coe_add, ← EReal.coe_add, ← EReal.coe_add, Math.score, Finset.sum_range]
  rfl

/-- The result from the score and the last values is `value`. -/
theorem result_value {alpha : FVec Ideal S16x64 .f32} {num : FVec Ideal S16 .f32} (hen : ∀ j : Fin 64, en (ix1 j) = ((y j : ℝ) : EReal))
    (ha : ∀ (b : Fin 16) (j : Fin 64), alpha (ix2 b j) = ((Math.alpha (fun t => M t b) (fun t => Q t b) x X Y 511 j : ℝ) : EReal))
    (hn : ∀ b : Fin 16, num (ix1 b) = ((Math.score (fun t => M t b) (fun t => Q t b) x y X Y (fun t => G t b) : ℝ) : EReal)) (i : S_.Idx) :
    resultOf (lastScores alpha en) num i = ((Math.value M G Q x y X Y : ℝ) : EReal) := by
  have hs : ∀ (b : Fin 16) (j : Fin 64), lastScores alpha en (ix2 b j) = ((Math.alpha (fun t => M t b) (fun t => Q t b) x X Y 511 j + y j : ℝ) : EReal) := fun b j => by
    rw [lastScores_read, ha, hen, EReal.coe_add]
  have hb : ∀ b : Fin 16, num (ix1 b) - (topLast (lastScores alpha en) (ix2 b 0) + Ideal.log (∑ j : Fin 64, Ideal.exp (lastScores alpha en (ix2 b j) - topLast (lastScores alpha en) (ix2 b 0))))
      = ((Math.score (fun t => M t b) (fun t => Q t b) x y X Y (fun t => G t b) - Real.log (Math.total (fun t => M t b) (fun t => Q t b) x y X Y) : ℝ) : EReal) := fun b => by
    rw [topLast_read]
    simp only [hs]
    obtain ⟨m, hm⟩ := fold_max_real fun j : Fin 64 => Math.alpha (fun t => M t b) (fun t => Q t b) x X Y 511 j + y j
    rw [hm, shifted_log, hn, ← EReal.coe_sub, Math.log_total]
  rw [resultOf_read, Finset.sum_congr rfl fun b _ => hb b, coe_sum, Math.value]

end Cert.Proof.R

end
-- ==== Proof.R.Entry.lean ====
module

public import proofs.«01_k».proof.Proof.R.Terms
public import Idealize.ShloMosaic.Lib.Pointwise

@[expose] public section

set_option maxRecDepth 16384

noncomputable section

namespace Cert.Proof.R

open Cert.ReferenceIdeal Cert.ReferenceIdeal.Gen Cert.ReferenceIdeal.Value
open Idealize.ShloMosaic Idealize.ShloMosaic.TcCoe Idealize.ShloMosaic.StableHlo
open Idealize.SL Idealize.SL.Sem
open Cert.Proof

/-! What the loop finds at its entry. -/

variable (m : (ℓ : Loc nD τ sig) → Buf (Elt Ideal) ℓ) (c : Dev nD)

set_option maxHeartbeats 40000000
set_option maxRecDepth 200000

theorem entry_0 : entryContents preI m c (Proc.devRef .tc main_v168_0) = m ((c.tc : Thread nD τ).loc main_arg6) := by
  simp only [entryContents, afterL_cons, afterL_nil]
  after_results
  rfl

theorem entry_2 : entryContents preI m c (Proc.devRef .tc main_v168_2) = m ((c.tc : Thread nD τ).loc main_arg7) := by
  simp only [entryContents, afterL_cons, afterL_nil]
  after_results
  rfl

theorem entry_4 : entryContents preI m c (Proc.devRef .tc main_v168_4) = m ((c.tc : Thread nD τ).loc main_arg0) := by
  simp only [entryContents, afterL_cons, afterL_nil]
  after_results
  rfl

theorem entry_5 : entryContents preI m c (Proc.devRef .tc main_v168_5) = m ((c.tc : Thread nD τ).loc main_arg3) := by
  simp only [entryContents, afterL_cons, afterL_nil]
  after_results
  rfl

theorem entry_7 : entryContents preI m c (Proc.devRef .tc main_v168_7) = fun _ => 1#32 := by
  simp only [entryContents, afterL_cons, afterL_nil]
  after_results
  rfl

theorem entry_8 : entryContents preI m c (Proc.devRef .tc main_v168_8) = alphaStart (m ((c.tc : Thread nD τ).loc main_arg4)) (m ((c.tc : Thread nD τ).loc main_arg0)) := by
  simp only [entryContents, afterL_cons, afterL_nil]
  after_results
  rfl

theorem entry_1 : entryContents preI m c (Proc.devRef .tc main_v168_1) = inertOfConv (convOf (m ((c.tc : Thread nD τ).loc main_arg2))) := by
  simp only [entryContents, afterL_cons, afterL_nil]
  after_results
  rfl

theorem entry_3 : entryContents preI m c (Proc.devRef .tc main_v168_3) = contOfConv (convOf (m ((c.tc : Thread nD τ).loc main_arg2))) := by
  simp only [entryContents, afterL_cons, afterL_nil]
  after_results
  rfl

/-- The buffers before the long stretch ahead of the loop. -/
def early : Valuation τ sig (Elt Ideal) := StableHlo.after hostOps0_3 (StableHlo.after hostOps0_2 (StableHlo.after hostOps0_1 (StableHlo.after hostOps0 fun b => m (c, b))))

theorem early_v24 : early m c (Proc.devRef .tc main_v24) = iotaInDim S16 32 0 := by
  unfold early
  after_results

theorem early_v18 : early m c (Proc.devRef .tc main_v18) = broadcastInDim S512x1 ![0] bcast_S512_S512x1_0 (iotaInDim S512 32 0) := by
  unfold early
  after_results

theorem early_v20 : early m c (Proc.devRef .tc main_v20) = cmpi .sgt (convOf (m ((c.tc : Thread nD τ).loc main_arg2))) (broadcastInDim S512x16 ![] bcast_S_S512x16 (constantI S_ 32 0#32)) := by
  unfold early
  after_results
  rfl

theorem early_v22 : early m c (Proc.devRef .tc main_v22) = cmpi .ne (convOf (m ((c.tc : Thread nD τ).loc main_arg2))) (broadcastInDim S512x16 ![0, 1] bcast_S512x1_S512x16_0_1 (broadcastInDim S512x1 ![0] bcast_S512_S512x1_0 (iotaInDim S512 32 0))) := by
  unfold early
  after_results
  rfl

theorem early_v23 : early m c (Proc.devRef .tc main_v23) = (uitofp .f32 (m ((c.tc : Thread nD τ).loc main_arg3) : IVec S512x16 1) : FVec Ideal S512x16 .f32) := by
  unfold early
  after_results

theorem early_v53 : early m c (Proc.devRef .tc main_v53) = addf (classAt (m ((c.tc : Thread nD τ).loc main_arg4)) (firstTag (m ((c.tc : Thread nD τ).loc main_arg1)))) (firstEm (m ((c.tc : Thread nD τ).loc main_arg0)) (firstTag (m ((c.tc : Thread nD τ).loc main_arg1)))) := by
  unfold early
  after_results
  rfl

/-- The stretch that keeps the position within the table, over any buffers. -/
theorem clip_read (W : Valuation τ sig (Elt Ideal)) : StableHlo.after hostOps0_3 W (Proc.devRef .tc main_v56)
    = minsi (broadcastInDim S512x16 ![] bcast_S_S512x16 (id (W (Proc.devRef .tc main_c_12)) : IVec S_ 32))
      (maxsi (broadcastInDim S512x16 ![] bcast_S_S512x16 (id (W (Proc.devRef .tc main_c_11)) : IVec S_ 32)) (W (Proc.devRef .tc main_v55) : IVec S512x16 32)) := by
  after_results
  rfl

/-- The buffers before that stretch. -/
def earlier : Valuation τ sig (Elt Ideal) := StableHlo.after hostOps0_2 (StableHlo.after hostOps0_1 (StableHlo.after hostOps0 fun b => m (c, b)))

theorem earlier_v55 : earlier m c (Proc.devRef .tc main_v55) = subi (convOf (m ((c.tc : Thread nD τ).loc main_arg2))) (broadcastInDim S512x16 ![] bcast_S_S512x16 (constantI S_ 32 1#32)) := by
  unfold earlier
  after_results
  rfl

theorem earlier_c_11 : earlier m c (Proc.devRef .tc main_c_11) = constantI S_ 32 0#32 := by
  unfold earlier
  after_results

theorem earlier_c_12 : earlier m c (Proc.devRef .tc main_c_12) = constantI S_ 32 511#32 := by
  unfold earlier
  after_results

theorem early_v56 : early m c (Proc.devRef .tc main_v56) = ancestor (convOf (m ((c.tc : Thread nD τ).loc main_arg2))) := by
  refine (clip_read (earlier m c)).trans ?_
  rw [earlier_v55, earlier_c_11, earlier_c_12]
  rfl

theorem early_arg0 : early m c (Proc.devRef .tc main_arg0) = (m ((c.tc : Thread nD τ).loc main_arg0)) := by
  unfold early
  after_results

theorem early_arg1 : early m c (Proc.devRef .tc main_arg1) = (m ((c.tc : Thread nD τ).loc main_arg1)) := by
  unfold early
  after_results

theorem early_arg3 : early m c (Proc.devRef .tc main_arg3) = (m ((c.tc : Thread nD τ).loc main_arg3)) := by
  unfold early
  after_results

theorem early_arg5 : early m c (Proc.devRef .tc main_arg5) = (m ((c.tc : Thread nD τ).loc main_arg5)) := by
  unfold early
  after_results

theorem early_arg6 : early m c (Proc.devRef .tc main_arg6) = (m ((c.tc : Thread nD τ).loc main_arg6)) := by
  unfold early
  after_results

theorem early_arg7 : early m c (Proc.devRef .tc main_arg7) = (m ((c.tc : Thread nD τ).loc main_arg7)) := by
  unfold early
  after_results

theorem entry_score : entryContents preI m c (Proc.devRef .tc main_v162) = scoreFrom (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) := by
  have h : entryContents preI m c = StableHlo.after hostOps0_4 (early m c) := by
    simp only [entryContents, afterL_cons, afterL_nil]
    rfl
  rw [h]
  after_results
  dsimp only [Matrix.cons_val]
  simp only [↓ readResult, ↓ readPieces, -eq_self]
  rw [early_v24 m c, early_v18 m c, early_v20 m c, early_v22 m c, early_v23 m c, early_v53 m c, early_v56 m c, early_arg0 m c, early_arg1 m c, early_arg3 m c, early_arg5 m c, early_arg6 m c, early_arg7 m c]
  rfl

end Cert.Proof.R

end
-- ==== Proof.R.Final.lean ====
module

public import proofs.«01_k».proof.Proof.R.Value
public import proofs.«01_k».proof.Proof.R.Entry
public import Idealize.ShloMosaic.Lib.Pointwise

@[expose] public section

set_option maxRecDepth 16384

noncomputable section

namespace Cert.Proof.R

open Cert.ReferenceIdeal Cert.ReferenceIdeal.Gen Cert.ReferenceIdeal.Value
open Idealize.ShloMosaic Idealize.ShloMosaic.TcCoe Idealize.ShloMosaic.StableHlo
open Idealize.SL Idealize.SL.Sem
open Cert.Proof

/-! The reference's result, from its arguments to the number it ends with. -/

variable (m : (ℓ : Loc nD τ sig) → Buf (Elt Ideal) ℓ) (c : Dev nD)

/-- The lines after the loop, over whatever the loop leaves. -/
theorem tail_read (V : Valuation τ sig (Elt Ideal)) : StableHlo.after hostOps0_5 V (Proc.devRef .tc main_v182)
    = resultOf (lastScores (V (Proc.devRef .tc main_v168_8)) (V (Proc.devRef .tc main_arg5))) (V (Proc.devRef .tc main_v162)) := by
  after_results
  rfl

/-- The result, over the loop's trips and the score before it. -/
theorem final_read : finalContents condOps preI bodyI postI 511 m c (Proc.devRef .tc main_v182)
    = resultOf (lastScores (alphaOf (STEP^[511] (entryContents preI m c))) (m ((c.tc : Thread nD τ).loc main_arg5)))
      (entryContents preI m c (Proc.devRef .tc main_v162)) := by
  have h8 : StableHlo.after condOps (atK m 511 c) (Proc.devRef .tc main_v168_8) = alphaOf (STEP^[511] (entryContents preI m c)) :=
    (cond_keeps (atK m 511 c) main_v168_8 (by decide)).trans (atK_agree m c 511 main_v168_8 (by decide))
  have h5 : StableHlo.after condOps (atK m 511 c) (Proc.devRef .tc main_arg5) = m ((c.tc : Thread nD τ).loc main_arg5) := by
    rw [after_of_writes_sub condOps _ condOps_writes (by decide +kernel : main_arg5 ∉ condOps_W)]
    exact (trips_keep m c main_arg5 (by decide +kernel) (by decide +kernel) (by decide +kernel) (by decide +kernel) 511).trans
      (entry_keep m c main_arg5 (by decide +kernel) (by decide +kernel) (by decide +kernel) (by decide +kernel) (by decide +kernel))
  have h162 : StableHlo.after condOps (atK m 511 c) (Proc.devRef .tc main_v162) = entryContents preI m c (Proc.devRef .tc main_v162) := by
    rw [after_of_writes_sub condOps _ condOps_writes (by decide +kernel : main_v162 ∉ condOps_W)]
    exact trips_keep m c main_v162 (by decide +kernel) (by decide +kernel) (by decide +kernel) (by decide +kernel) 511
  rw [← h8, ← h5, ← h162, ← tail_read]
  simp only [finalContents, afterL_cons, afterL_nil]

variable {m c}
variable {M : ℕ → Fin 16 → Fin 64 → ℝ} {G : ℕ → Fin 16 → Fin 64} {Q : ℕ → Fin 16 → Bool} {x y : Fin 64 → ℝ} {X Y : Fin 64 → Fin 64 → ℝ}

/-- The launch's arguments are given tables. -/
abbrev GivenAt (m : (ℓ : Loc nD τ sig) → Buf (Elt Ideal) ℓ) (c : Dev nD) (M : ℕ → Fin 16 → Fin 64 → ℝ) (G : ℕ → Fin 16 → Fin 64) (Q : ℕ → Fin 16 → Bool)
    (x y : Fin 64 → ℝ) (X Y : Fin 64 → Fin 64 → ℝ) : Prop :=
  Given (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) M G Q x y X Y

/-- At the loop's entry the class values are those of the first position. -/
theorem holding_entry (h : GivenAt m c M G Q x y X Y) : Holding (entryContents preI m c) M Q x X Y 0 where
  self i j := (congrFun (entry_0 m c) (ix2 i j)).trans (h.sT i j)
  other i j := (congrFun (entry_2 m c) (ix2 i j)).trans (h.oT i j)
  inert t b := (congrFun (entry_1 m c) (ix2 t b)).trans (inert_value h.q t b)
  cont t b := (congrFun (entry_3 m c) (ix2 t b)).trans (cont_value h.q t b)
  em t b k := (congrFun (entry_4 m c) (ix3 t b k)).trans (h.em t b k)
  mask t b := (congrFun (entry_5 m c) (ix2 t b)).trans (h.mask t b)
  ctr := entry_7 m c
  alpha b j := (congrFun (entry_8 m c) (ix2 b j)).trans (by
    rw [alphaStart_read, h.st, h.em, ← EReal.coe_add, Math.alpha_zero]
    rfl)

/-- The program ends with the model's value. -/
theorem final_value (h : GivenAt m c M G Q x y X Y) :
    finalContents condOps preI bodyI postI 511 m c (Proc.devRef .tc main_v182) = fun _ => ((Math.value M G Q x y X Y : ℝ) : EReal) := by
  rw [final_read, entry_score]
  funext i
  exact result_value h.en ((holding_entry h).all 511 le_rfl).alpha (score_value h) i

end Cert.Proof.R

end
-- ==== Proof.Pre.Facts.lean ====
module

public import proofs.«01_k».proof.Pre_inputs_drawn
public import Idealize.ShloMosaic.Lib.Decide

@[expose] public section

noncomputable section

namespace Cert.Proof.Pre

open Idealize.ShloMosaic Cert.Pre_inputs_drawn

/-! The shape relations the precondition's operations take. -/

/-- They hold: each by evaluation. -/
instance facts : Cert.Pre_inputs_drawn.Facts where
  bcast_S_S512x16x64 := by decide
  reducesTo_S512x16x64_S_d0_1_2 := by decide
  h_S_ := by decide
  bcast_S_S64 := by decide
  reducesTo_S64_S_d0 := by decide
  bcast_S_S64x64 := by decide
  reducesTo_S64x64_S_d0_1 := by decide
  bcast_S_S512x16 := by decide
  reducesTo_S512x16_S_d0_1 := by decide

end Cert.Proof.Pre

end
-- ==== Proof.Pre.Decode.lean ====
module

public import proofs.«01_k».proof.Proof.Pre.Facts
public import Idealize.ShloMosaic.Lib.Pointwise
public import Idealize.ShloMosaic.Lib.ReduceAll
public import Idealize.ShloMosaic.Lib.WordCmp

@[expose] public section

noncomputable section

namespace Cert.Proof.Pre

open Idealize.ShloMosaic Cert.Pre_inputs_drawn

/-! What the precondition says of the arguments. -/

instance : Subsingleton S_.Idx := ⟨fun a b => funext fun d => d.elim0⟩

/-- A number below infinity in absolute value is a real. -/
theorem real_of_finite {x : EReal} (h : Ideal.cmp .olt (max x (-x)) (Ideal.ofBits .f32 0x7F800000#32) = 1#1) : x = ((x.toReal : ℝ) : EReal) := by
  have hi : Ideal.ofBits .f32 0x7F800000#32 = (⊤ : EReal) := by simp [Ideal.ofBits, Ideal.ieee]
  rw [hi] at h
  induction x with
  | bot => exact absurd h (by simp [Ideal.cmp])
  | top => exact absurd h (by simp [Ideal.cmp])
  | coe r => rfl

/-- A word from 0 up to a small bound is that natural's. -/
theorem word_below {k : Nat} (hk : k < 2 ^ 31) {x : BitVec 32} (h : IntOp.andi (IntOp.cmpi .sge x 0#32) (IntOp.cmpi .slt x (BitVec.ofNat 32 k)) = 1#1) : x.toNat < k := by
  rw [WordCmp.andi_sge_zero_slt_ofNat hk] at h
  by_contra hn
  rw [decide_eq_false hn] at h
  exact absurd h (by decide)

variable {em : FVec Ideal S512x16x64 .f32} {tg q : IVec S512x16 32} {mask : IVec S512x16 1} {st en : FVec Ideal S64 .f32} {sT oT : FVec Ideal S64x64 .f32}

/-- The precondition, an element at a time. -/
theorem elements (h : fn (F := Ideal) em tg q mask st en sT oT = fun _ => 1#1) :
    (∀ i, em i = (((em i).toReal : ℝ) : EReal)) ∧ (∀ i, st i = (((st i).toReal : ℝ) : EReal)) ∧ (∀ i, en i = (((en i).toReal : ℝ) : EReal))
    ∧ (∀ i, sT i = (((sT i).toReal : ℝ) : EReal)) ∧ (∀ i, oT i = (((oT i).toReal : ℝ) : EReal))
    ∧ (∀ i, (tg i).toNat < 64) ∧ (∀ i, (q i).toNat < 2) ∧ (∀ i, mask i = 1#1) := by
  have h0 := congrFun h ix0
  obtain ⟨h0, hm⟩ := IntOp.andi_eq_one.1 h0
  obtain ⟨h0, hq⟩ := IntOp.andi_eq_one.1 h0
  obtain ⟨h0, ht⟩ := IntOp.andi_eq_one.1 h0
  obtain ⟨h0, ho⟩ := IntOp.andi_eq_one.1 h0
  obtain ⟨h0, hs⟩ := IntOp.andi_eq_one.1 h0
  obtain ⟨h0, hn⟩ := IntOp.andi_eq_one.1 h0
  obtain ⟨he, hst⟩ := IntOp.andi_eq_one.1 h0
  refine ⟨fun i => real_of_finite (Host.reduce_andi_all _ _ _ _ _ he i), fun i => real_of_finite (Host.reduce_andi_all _ _ _ _ _ hst i),
    fun i => real_of_finite (Host.reduce_andi_all _ _ _ _ _ hn i), fun i => real_of_finite (Host.reduce_andi_all _ _ _ _ _ hs i),
    fun i => real_of_finite (Host.reduce_andi_all _ _ _ _ _ ho i), fun i => word_below (by decide) (Host.reduce_andi_all _ _ _ _ _ ht i),
    fun i => word_below (by decide) (Host.reduce_andi_all _ _ _ _ _ hq i), fun i => Host.reduce_andi_all _ _ _ _ _ hm i⟩

/-- The arguments are tables of reals, classes and speakers, and a mask that keeps everything. -/
theorem drawn (h : fn (F := Ideal) em tg q mask st en sT oT = fun _ => 1#1) :
    ∃ (M : ℕ → Fin 16 → Fin 64 → ℝ) (G : ℕ → Fin 16 → Fin 64) (Q : ℕ → Fin 16 → Bool) (x y : Fin 64 → ℝ) (X Y : Fin 64 → Fin 64 → ℝ),
      (∀ (t : Fin 512) (b : Fin 16) (k : Fin 64), em (ix3 t b k) = ((M t.val b k : ℝ) : EReal))
      ∧ (∀ (t : Fin 512) (b : Fin 16), tg (ix2 t b) = BitVec.ofNat 32 (G t.val b).val)
      ∧ (∀ (t : Fin 512) (b : Fin 16), q (ix2 t b) = if Q t.val b then 1#32 else 0#32)
      ∧ (∀ (t : Fin 512) (b : Fin 16), mask (ix2 t b) = 1#1)
      ∧ (∀ j : Fin 64, st (ix1 j) = ((x j : ℝ) : EReal)) ∧ (∀ j : Fin 64, en (ix1 j) = ((y j : ℝ) : EReal))
      ∧ (∀ i j : Fin 64, sT (ix2 i j) = ((X i j : ℝ) : EReal)) ∧ (∀ i j : Fin 64, oT (ix2 i j) = ((Y i j : ℝ) : EReal)) := by
  obtain ⟨he, hst, hn, hs, ho, ht, hq, hm⟩ := elements h
  refine ⟨fun t b k => (em (ix3 (Fin.ofNat 512 t) b k)).toReal, fun t b => Fin.ofNat 64 (tg (ix2 (Fin.ofNat 512 t) b)).toNat,
    fun t b => q (ix2 (Fin.ofNat 512 t) b) == 1#32, fun j => (st (ix1 j)).toReal, fun j => (en (ix1 j)).toReal,
    fun i j => (sT (ix2 i j)).toReal, fun i j => (oT (ix2 i j)).toReal, fun t b k => ?_, fun t b => ?_, fun t b => ?_, fun t b => hm _,
    fun j => hst _, fun j => hn _, fun i j => hs _, fun i j => ho _⟩
  · have e : Fin.ofNat 512 t.val = t := Fin.ext (Nat.mod_eq_of_lt t.isLt)
    show _ = (((em (ix3 (Fin.ofNat 512 t.val) b k)).toReal : ℝ) : EReal)
    rw [e]
    exact he _
  · have e : Fin.ofNat 512 t.val = t := Fin.ext (Nat.mod_eq_of_lt t.isLt)
    show _ = BitVec.ofNat 32 ((tg (ix2 (Fin.ofNat 512 t.val) b)).toNat % 64)
    rw [e, Nat.mod_eq_of_lt (ht _), BitVec.ofNat_toNat, BitVec.setWidth_eq]
  · have e : Fin.ofNat 512 t.val = t := Fin.ext (Nat.mod_eq_of_lt t.isLt)
    show _ = if (q (ix2 (Fin.ofNat 512 t.val) b) == 1#32) = true then 1#32 else 0#32
    rw [e]
    have h2 := hq (ix2 t b)
    generalize q (ix2 t b) = w at h2
    have h3 : w = BitVec.ofNat 32 w.toNat := by rw [BitVec.ofNat_toNat, BitVec.setWidth_eq]
    rw [h3]
    interval_cases w.toNat <;> decide

end Cert.Proof.Pre

end
-- ==== Proof.Agree.lean ====
module

public import proofs.«01_k».proof.Proof.KI.Out
public import proofs.«01_k».proof.Proof.KI.Final
public import proofs.«01_k».proof.Proof.R.Final
public import proofs.«01_k».proof.Proof.Pre.Decode
public import proofs.«01_k».proof.Defs

@[expose] public section

noncomputable section

namespace Cert.Proof.KI

open Cert.KernelIdeal Cert.KernelIdeal.Gen
open Idealize.ShloMosaic Idealize.ShloMosaic.TcCoe Idealize.ShloMosaic.Tactic
open Idealize.SL.Sem
open Cert.Proof

/-! The kernel and the reference end with one number. -/

theorem row_read (x : FVec Ideal S64 .f32) (j : Fin 64) : shapeCast S1x64 x shapeCasts_S64_S1x64 (ix2 0 j) = x (ix1 j) := by
  pointwise []

theorem turned_read (x : FVec Ideal S64x64 .f32) (i j : Fin 64) : transpose S64x64 [1, 0] x transposes_S64x64_S64x64_1_0 (ix2 i j) = x (ix2 j i) := by
  pointwise []

theorem number_read (x : FVec Ideal S1x1 .f32) (i : S_.Idx) : shapeCast S_ x shapeCasts_S1x1_S_ i = x (ix2 0 0) := by
  pointwise []

/-- The kernel ends with the model's value. -/
theorem out_value {m : (ℓ : Loc nD τ sig) → Buf (Elt Ideal) ℓ} {c : Dev nD} {M : ℕ → Fin 16 → Fin 64 → ℝ} {G : ℕ → Fin 16 → Fin 64} {Q : ℕ → Fin 16 → Bool}
    {x y : Fin 64 → ℝ} {X Y : Fin 64 → Fin 64 → ℝ} (hem : Emits (m ((c : Thread nD τ).loc main_arg0)) M) (htg : Tagged (m ((c : Thread nD τ).loc main_arg1)) G)
    (hq : Speaks (m ((c : Thread nD τ).loc main_arg2)) Q) (hx : ∀ j : Fin 64, m ((c : Thread nD τ).loc main_arg4) (ix1 j) = ((x j : ℝ) : EReal))
    (hy : ∀ j : Fin 64, m ((c : Thread nD τ).loc main_arg5) (ix1 j) = ((y j : ℝ) : EReal)) (hX : Mat (m ((c : Thread nD τ).loc main_arg6)) X)
    (hY : Mat (m ((c : Thread nD τ).loc main_arg7)) Y) :
    shapeCast S_ (outM m c) shapeCasts_S1x1_S_ = fun _ => ((Math.value M G Q x y X Y : ℝ) : EReal) := by
  funext i
  rw [number_read, outM]
  exact crfOut_value hem htg hq (fun j => (row_read _ j).trans (hx j)) (fun j => (row_read _ j).trans (hy j)) hX hY
    (fun i j => (turned_read _ i j).trans (hX j i)) (fun i j => (turned_read _ i j).trans (hY j i))

end Cert.Proof.KI

namespace Cert.Proof

open Idealize.ShloMosaic Idealize.SL.Sem

/-- From arguments as drawn, the kernel and the reference end with the same number, and leave their arguments as they were. -/
theorem algebraic : algebraic_KernelIdeal_ReferenceIdeal_pre_inputs_drawn (hKernelIdeal := Cert.KernelIdeal.Gen.facts)
    (hReferenceIdeal := Cert.ReferenceIdeal.Gen.facts) (hPre_inputs_drawn := Pre.facts) := by
  intro m g m' g' hpre hagree
  refine ⟨_, (θ_run Cert.KernelIdeal.defs _ _).mono (fun r h => h) (KI.run_value m g),
    (θ_run Cert.ReferenceIdeal.defs _ _).mono (fun r h c => ⟨(h.1 c).1.trans ?_, (h.1 c).2⟩) (R.run_args m' g')⟩
  obtain ⟨M, G, Q, x, y, X, Y, hem, htg, hq, hm, hx, hy, hX, hY⟩ := Pre.drawn (hpre c)
  obtain ⟨a0, a1, a2, a3, a4, a5, a6, a7⟩ := hagree c
  exact (R.final_value (m := m') (c := c) ⟨fun t b k => (congrFun a0 _).trans (hem t b k), fun t b => (congrFun a1 _).trans (htg t b),
    fun t b => (congrFun a2 _).trans (hq t b), fun t b => (congrFun a3 _).trans (hm t b), fun j => (congrFun a4 _).trans (hx j),
    fun j => (congrFun a5 _).trans (hy j), fun i j => (congrFun a6 _).trans (hX i j), fun i j => (congrFun a7 _).trans (hY i j)⟩).trans
    (KI.out_value hem htg hq hx hy hX hY).symm

end Cert.Proof

end
-- ==== Proof.lean ====
module

public import proofs.«01_k».proof.Defs
public import proofs.«01_k».proof.Proof.K.Run
public import proofs.«01_k».proof.Proof.KI.Run
public import proofs.«01_k».proof.Proof.R.Frame
public import proofs.«01_k».proof.Proof.Agree

@[expose] public section

noncomputable section

namespace Cert.Proof

open Idealize.ShloMosaic Idealize.SL.Sem

/-- The constant named `scale_log` is the real the certificate's table gives it. -/
theorem preserves : Cert.preserves_Kernel_KernelIdeal :=
  IdealRules.named_const.statement Cert.KernelIdeal.κ "scale_log" .f32 0x46DD5FB7#32 ((40880 * (Real.log 2) : ℝ) : EReal) rfl

theorem frame_k : Cert.quiescent_Kernel := fun m g _ => K.frame m g
theorem frame_ki : Cert.quiescent_KernelIdeal := fun m g _ => KI.frame m g
theorem frame_r : Cert.quiescent_ReferenceIdeal := fun m g _ =>
  (θ_run Cert.ReferenceIdeal.defs _ _).mono (fun _ h => ⟨fun c => (h.1 c).2, h.2⟩) (R.run_args m g)

theorem frame_ki_drawn : Cert.quiescent_KernelIdeal_pre_inputs_drawn (hPre_inputs_drawn := Pre.facts) := fun m g _ => KI.frame m g
theorem frame_r_drawn : Cert.quiescent_ReferenceIdeal_pre_inputs_drawn (hPre_inputs_drawn := Pre.facts) := fun m g _ => frame_r m g trivial

theorem claim : Cert.Claim :=
  ⟨Cert.Kernel.Gen.facts, Cert.KernelIdeal.Gen.facts, Cert.ReferenceIdeal.Gen.facts, Pre.facts, frame_k, frame_ki, frame_ki_drawn, frame_r, frame_r_drawn,
    preserves, algebraic⟩

end Cert.Proof

end
